-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v6_0)) (v5 : (c : Dev Cert.KernelIdeal.nD) → Buf (Elt Ideal) ((c.tc : Thread Cert.KernelIdeal.nD Cert.KernelIdeal.τ).loc Cert.KernelIdeal.main_v6_1)) (v6 : (c : Dev Cert.KernelIdeal.nD) → Buf (Elt Ideal) ((c.tc : Thread Cert.KernelIdeal.nD Cert.KernelIdeal.τ).loc Cert.KernelIdeal.main_v10_4)) (v7 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v6_0) = v4 c
          ∧ r.2.mem ((c.tc : Thread Cert.KernelIdeal.nD Cert.KernelIdeal.τ).loc Cert.KernelIdeal.main_v6_1) = v5 c
          ∧ r.2.mem ((c.tc : Thread Cert.KernelIdeal.nD Cert.KernelIdeal.τ).loc Cert.KernelIdeal.main_v10_4) = v6 c
          ∧ r.2.mem ((c.tc : Thread Cert.KernelIdeal.nD Cert.KernelIdeal.τ).loc Cert.KernelIdeal.main_v10_5) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_v8_4) = v4 c
          ∧ r.2.mem ((c.tc : Thread Cert.ReferenceIdeal.nD Cert.ReferenceIdeal.τ).loc Cert.ReferenceIdeal.main_v8_5) = v5 c
          ∧ r.2.mem ((c.tc : Thread Cert.ReferenceIdeal.nD Cert.ReferenceIdeal.τ).loc Cert.ReferenceIdeal.main_v8_6) = v6 c
          ∧ r.2.mem ((c.tc : Thread Cert.ReferenceIdeal.nD Cert.ReferenceIdeal.τ).loc Cert.ReferenceIdeal.main_v8_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x768 : Shape := ⟨3, ![3, 512, 768]⟩
abbrev S3x512 : Shape := ⟨2, ![3, 512]⟩
abbrev S3 : Shape := ⟨1, ![3]⟩
abbrev S768x768 : Shape := ⟨2, ![768, 768]⟩
abbrev S768 : Shape := ⟨1, ![768]⟩
abbrev S50368x768 : Shape := ⟨2, ![50368, 768]⟩
abbrev S50368 : Shape := ⟨1, ![50368]⟩
abbrev S_ : Shape := ⟨0, ![]⟩
abbrev S1536x768 : Shape := ⟨2, ![1536, 768]⟩
abbrev S1536x1 : Shape := ⟨2, ![1536, 1]⟩
abbrev S1x768 : Shape := ⟨2, ![1, 768]⟩
abbrev S256x768 : Shape := ⟨2, ![256, 768]⟩
abbrev S256x1 : Shape := ⟨2, ![256, 1]⟩
abbrev S256 : Shape := ⟨1, ![256]⟩
abbrev S1x1 : Shape := ⟨2, ![1, 1]⟩
abbrev S1x50368 : Shape := ⟨2, ![1, 50368]⟩
abbrev S3x50368 : Shape := ⟨2, ![3, 50368]⟩
abbrev S3x1 : Shape := ⟨2, ![3, 1]⟩
abbrev S1024x768 : Shape := ⟨2, ![1024, 768]⟩
abbrev S1x1024 : Shape := ⟨2, ![1, 1024]⟩
abbrev S3x1024 : Shape := ⟨2, ![3, 1024]⟩
abbrev S512x768 : Shape := ⟨2, ![512, 768]⟩
abbrev S512x1024 : Shape := ⟨2, ![512, 1024]⟩
abbrev S512x1 : Shape := ⟨2, ![512, 1]⟩
abbrev S1 : Shape := ⟨1, ![1]⟩
abbrev S1024 : Shape := ⟨1, ![1024]⟩

abbrev nBuf : Space → Nat
  | .hbm => 29
  | .vmem => 30
  | .smem => 2
  | _ => 0

abbrev bufTy : (tb : Table) → Fin (tcTables nBuf tb) → BufTy
  | .hbm, ⟨0, _⟩ => ⟨S3x512x768, .fp8e4m3⟩
  | .hbm, ⟨1, _⟩ => ⟨S3x512, .f32⟩
  | .hbm, ⟨2, _⟩ => ⟨S3, .i32⟩
  | .hbm, ⟨3, _⟩ => ⟨S768x768, .fp8e4m3⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S50368x768, .fp8e4m3⟩
  | .hbm, ⟨9, _⟩ => ⟨S50368, .f32⟩
  | .hbm, ⟨10, _⟩ => ⟨S50368, .f32⟩
  | .hbm, ⟨11, _⟩ => ⟨S_, .f32⟩
  | .hbm, ⟨12, _⟩ => ⟨S1536x768, .fp8e4m3⟩
  | .hbm, ⟨13, _⟩ => ⟨S1536x1, .f32⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S1x768, .f32⟩
  | .hbm, ⟨18, _⟩ => ⟨S1536x768, .fp8e4m3⟩
  | .hbm, ⟨19, _⟩ => ⟨S1536x1, .f32⟩
  | .hbm, ⟨20, _⟩ => ⟨S1x1, .f32⟩
  | .hbm, ⟨21, _⟩ => ⟨S1x50368, .f32⟩
  | .hbm, ⟨22, _⟩ => ⟨S1x50368, .f32⟩
  | .hbm, ⟨23, _⟩ => ⟨S3x50368, .f32⟩
  | .hbm, ⟨24, _⟩ => ⟨S3x1, .f32⟩
  | .hbm, ⟨25, _⟩ => ⟨S1x50368, .f32⟩
  | .hbm, ⟨26, _⟩ => ⟨S1x1, .f32⟩
  | .hbm, ⟨27, _⟩ => ⟨S3x50368, .i8⟩
  | .hbm, ⟨28, _⟩ => ⟨S3x1, .f32⟩
  | .local _ .vmem, ⟨0, _⟩ => ⟨S256x768, .fp8e4m3⟩
  | .local _ .vmem, ⟨1, _⟩ => ⟨S256x768, .fp8e4m3⟩
  | .local _ .vmem, ⟨2, _⟩ => ⟨S256x1, .f32⟩
  | .local _ .vmem, ⟨3, _⟩ => ⟨S256x1, .f32⟩
  | .local _ .vmem, ⟨4, _⟩ => ⟨S768x768, .fp8e4m3⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S256x768, .fp8e4m3⟩
  | .local _ .vmem, ⟨10, _⟩ => ⟨S256x768, .fp8e4m3⟩
  | .local _ .vmem, ⟨11, _⟩ => ⟨S256x1, .f32⟩
  | .local _ .vmem, ⟨12, _⟩ => ⟨S256x1, .f32⟩
  | .local _ .vmem, ⟨13, _⟩ => ⟨S1536x768, .fp8e4m3⟩
  | .local _ .vmem, ⟨14, _⟩ => ⟨S1536x1, .f32⟩
  | .local _ .vmem, ⟨15, _⟩ => ⟨S1024x768, .fp8e4m3⟩
  | .local _ .vmem, ⟨16, _⟩ => ⟨S1024x768, .fp8e4m3⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S3x1024, .f32⟩
  | .local _ .vmem, ⟨22, _⟩ => ⟨S3x1024, .f32⟩
  | .local _ .vmem, ⟨23, _⟩ => ⟨S3x1, .f32⟩
  | .local _ .vmem, ⟨24, _⟩ => ⟨S1x1024, .f32⟩
  | .local _ .vmem, ⟨25, _⟩ => ⟨S1x1024, .f32⟩
  | .local _ .vmem, ⟨26, _⟩ => ⟨S1x1, .f32⟩
  | .local _ .vmem, ⟨27, _⟩ => ⟨S3x1024, .i8⟩
  | .local _ .vmem, ⟨28, _⟩ => ⟨S3x1024, .i8⟩
  | .local _ .vmem, ⟨29, _⟩ => ⟨S3x1, .f32⟩
  | .local _ .smem, ⟨0, _⟩ => ⟨S3, .i32⟩
  | .local _ .smem, ⟨1, _⟩ => ⟨S1x1, .f32⟩
  | _, _ => ⟨S3x512x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem11_0 : DmaSem sig := 29
abbrev cc1_sem11_1 : DmaSem sig := 30
abbrev cc1_sem12_0 : DmaSem sig := 31

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S3 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1536x768 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x768 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S3x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S3x1024 .i8 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S3x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== ReferenceIdeal.lean ====
abbrev S3x512x768 : Shape := ⟨3, ![3, 512, 768]⟩
abbrev S3x512 : Shape := ⟨2, ![3, 512]⟩
abbrev S3 : Shape := ⟨1, ![3]⟩
abbrev S768x768 : Shape := ⟨2, ![768, 768]⟩
abbrev S768 : Shape := ⟨1, ![768]⟩
abbrev S50368x768 : Shape := ⟨2, ![50368, 768]⟩
abbrev S50368 : Shape := ⟨1, ![50368]⟩
abbrev S_ : Shape := ⟨0, ![]⟩
abbrev S3x512x1 : Shape := ⟨3, ![3, 512, 1]⟩
abbrev S1x768 : Shape := ⟨2, ![1, 768]⟩
abbrev S1x50368 : Shape := ⟨2, ![1, 50368]⟩
abbrev S1x1 : Shape := ⟨2, ![1, 1]⟩
abbrev S3x50368 : Shape := ⟨2, ![3, 50368]⟩
abbrev S3x1 : Shape := ⟨2, ![3, 1]⟩
abbrev S1536x768 : Shape := ⟨2, ![1536, 768]⟩
abbrev S1536x1 : Shape := ⟨2, ![1536, 1]⟩
abbrev S1x1x768 : Shape := ⟨3, ![1, 1, 768]⟩
abbrev S1x512x768 : Shape := ⟨3, ![1, 512, 768]⟩
abbrev S512x768 : Shape := ⟨2, ![512, 768]⟩
abbrev S512x50368 : Shape := ⟨2, ![512, 50368]⟩
abbrev S1x512x1 : Shape := ⟨3, ![1, 512, 1]⟩
abbrev S512x1 : Shape := ⟨2, ![512, 1]⟩
abbrev S1 : Shape := ⟨1, ![1]⟩

abbrev nBuf : Space → Nat
  | .hbm => 28
  | .vmem => 18
  | .smem => 2
  | _ => 0

abbrev bufTy : (tb : Table) → Fin (tcTables nBuf tb) → BufTy
  | .hbm, ⟨0, _⟩ => ⟨S3x512x768, .fp8e4m3⟩
  | .hbm, ⟨1, _⟩ => ⟨S3x512, .f32⟩
  | .hbm, ⟨2, _⟩ => ⟨S3, .i32⟩
  | .hbm, ⟨3, _⟩ => ⟨S768x768, .fp8e4m3⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S50368x768, .fp8e4m3⟩
  | .hbm, ⟨9, _⟩ => ⟨S50368, .f32⟩
  | .hbm, ⟨10, _⟩ => ⟨S50368, .f32⟩
  | .hbm, ⟨11, _⟩ => ⟨S_, .f32⟩
  | .hbm, ⟨12, _⟩ => ⟨S3x512x1, .f32⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S1x50368, .f32⟩
  | .hbm, ⟨18, _⟩ => ⟨S1x50368, .f32⟩
  | .hbm, ⟨19, _⟩ => ⟨S1x1, .f32⟩
  | .hbm, ⟨20, _⟩ => ⟨S3x50368, .f32⟩
  | .hbm, ⟨21, _⟩ => ⟨S3x1, .f32⟩
  | .hbm, ⟨22, _⟩ => ⟨S1x50368, .f32⟩
  | .hbm, ⟨23, _⟩ => ⟨S1x1, .f32⟩
  | .hbm, ⟨24, _⟩ => ⟨S1536x768, .fp8e4m3⟩
  | .hbm, ⟨25, _⟩ => ⟨S1536x1, .f32⟩
  | .hbm, ⟨26, _⟩ => ⟨S3x50368, .i8⟩
  | .hbm, ⟨27, _⟩ => ⟨S3x1, .f32⟩
  | .local _ .vmem, ⟨0, _⟩ => ⟨S3x512x768, .fp8e4m3⟩
  | .local _ .vmem, ⟨1, _⟩ => ⟨S3x512x1, .f32⟩
  | .local _ .vmem, ⟨2, _⟩ => ⟨S768x768, .fp8e4m3⟩
  | .local _ .vmem, ⟨3, _⟩ => ⟨S1x768, .f32⟩
  | .local _ .vmem, ⟨4, _⟩ => ⟨S1x768, .f32⟩
  | .local _ .vmem, ⟨5, _⟩ => ⟨S1x768, .f32⟩
  | .local _ .vmem, ⟨6, _⟩ => ⟨S1x768, .f32⟩
  | .local _ .vmem, ⟨7, _⟩ => ⟨S50368x768, .fp8e4m3⟩
  | .local _ .vmem, ⟨8, _⟩ => ⟨S1x50368, .f32⟩
  | .local _ .vmem, ⟨9, _⟩ => ⟨S1x50368, .f32⟩
  | .local _ .vmem, ⟨10, _⟩ => ⟨S3x50368, .f32⟩
  | .local _ .vmem, ⟨11, _⟩ => ⟨S3x1, .f32⟩
  | .local _ .vmem, ⟨12, _⟩ => ⟨S1x50368, .f32⟩
  | .local _ .vmem, ⟨13, _⟩ => ⟨S1x1, .f32⟩
  | .local _ .vmem, ⟨14, _⟩ => ⟨S1536x768, .fp8e4m3⟩
  | .local _ .vmem, ⟨15, _⟩ => ⟨S1536x1, .f32⟩
  | .local _ .vmem, ⟨16, _⟩ => ⟨S3x50368, .i8⟩
  | .local _ .vmem, ⟨17, _⟩ => ⟨S3x1, .f32⟩
  | .local _ .smem, ⟨0, _⟩ => ⟨S3, .i32⟩
  | .local _ .smem, ⟨1, _⟩ => ⟨S1x1, .f32⟩
  | _, _ => ⟨S3x512x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg16_0 : Ref sig .tc := ⟨.vmem, 14, rfl⟩
abbrev cc0_stg17_0 : Ref sig .tc := ⟨.vmem, 15, rfl⟩
abbrev cc0_stg18_0 : Ref sig .tc := ⟨.vmem, 16, rfl⟩
abbrev cc0_stg19_0 : Ref sig .tc := ⟨.vmem, 17, rfl⟩
abbrev cc0_stg2_0 : Ref sig .tc := ⟨.smem, 0, rfl⟩
abbrev cc0_stg11_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S3x512x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S50368x768 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x50368 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x50368 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x50368 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x50368 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1536x768 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1536x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x50368 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.Kernel.Body0.lean ====
/- The run of the transform kernel's body over whole staging buffers. -/
module

public import proofs.«01_k».proof.Proof.Gen.Kernel.Skeleton
public import proofs.«01_k».proof.Proof.Gen.Kernel.Launch
public import proofs.«01_k».proof.Proof.Gen.Kernel.Points
public import Idealize.ShloMosaic.Lib.Pipeline.Frame
public import Idealize.ShloMosaic.Lib.VecWindow
public import Idealize.ShloMosaic.Lib.Tactic

@[expose] public section

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One grid step of the transform kernel: from whole staging buffers the body stores the fp8 codes and the row
    scales it computes from the seven inputs, and leaves the inputs as they were. -/
theorem transform_run (c : Dev nD) (E : Set ℕ) (i : grid0.Coords)
    (arg1 : Memref sig .tc .vmem S256x768 .fp8e4m3) (harg1 : arg1.IsWhole) (arg2 : Memref sig .tc .vmem S256x1 .f32) (harg2 : arg2.IsWhole) (arg3 : Memref sig .tc .vmem S768x768 .fp8e4m3) (harg3 : arg3.IsWhole) (arg4 : Memref sig .tc .vmem S1x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S256x768 .fp8e4m3) (harg8 : arg8.IsWhole) (arg9 : Memref sig .tc .vmem S256x1 .f32) (harg9 : arg9.IsWhole)
    (x1 : Vec F S256x768 .fp8e4m3) (x2 : Vec F S256x1 .f32) (x3 : Vec F S768x768 .fp8e4m3) (x4 x5 x6 x7 : Vec F S1x768 .f32)
    (x8 : Vec F S256x768 .fp8e4m3) (x9 : Vec F S256x1 .f32) (K : PUnit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay3 (k0_pay4 x1 x3 x2 x4 x5) x6 x7) ∗ owns (c : Thread nD τ) arg9 fullShare (k0_pay2 (k0_pay4 x1 x3 x2 x4 x5) x6 x7)) -∗ K ⟨⟩))
      ⊢ wp frame (wpE (defs₀ (F := F)) Variants.none c none) E
          (cc0_transform i arg1 harg1 arg2 harg2 arg3 harg3 arg4 harg4 arg5 harg5 arg6 harg6 arg7 harg7 arg8 harg8 arg9 harg9) K := by
  simp only [cc0_transform_eq_skeleton]; unfold cc0_transform_skel
  simp only [k0_part1_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
  have hr1 : View.readAt (Elt F) arg1.view (Rect.unit (s := S256x768) ![0, 0] ![256, 768] inb_S256x768_S256x768_0_0).toLoadRect f1 = x1 := (View.readAt_full _ _ _).trans hf1
  have hr2 : View.readAt (Elt F) arg2.view (Rect.unit (s := S256x1) ![0, 0] ![256, 1] inb_S256x1_S256x1_0_0).toLoadRect f2 = x2 := (View.readAt_full _ _ _).trans hf2
  have hr3 : View.readAt (Elt F) arg3.view (Rect.unit (s := S768x768) ![0, 0] ![768, 768] inb_S768x768_S768x768_0_0).toLoadRect f3 = x3 := (View.readAt_full _ _ _).trans hf3
  have hr4 : View.readAt (Elt F) arg4.view (Rect.unit (s := S1x768) ![0, 0] ![1, 768] inb_S1x768_S1x768_0_0).toLoadRect f4 = x4 := (View.readAt_full _ _ _).trans hf4
  have hr5 : View.readAt (Elt F) arg5.view (Rect.unit (s := S1x768) ![0, 0] ![1, 768] inb_S1x768_S1x768_0_0).toLoadRect f5 = x5 := (View.readAt_full _ _ _).trans hf5
  have hr6 : View.readAt (Elt F) arg6.view (Rect.unit (s := S1x768) ![0, 0] ![1, 768] inb_S1x768_S1x768_0_0).toLoadRect f6 = x6 := (View.readAt_full _ _ _).trans hf6
  have hr7 : View.readAt (Elt F) arg7.view (Rect.unit (s := S1x768) ![0, 0] ![1, 768] inb_S1x768_S1x768_0_0).toLoadRect f7 = x7 := (View.readAt_full _ _ _).trans hf7
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; (· iexact H8); ipureintro
    refine (View.read_writes_full _ _ _ _ _).trans ?_
    sl_unfold_run_names
    rfl
  · iexists _; isplitr; swap; (· iexact H9); ipureintro
    refine (View.read_writes_full _ _ _ _ _).trans ?_
    sl_unfold_run_names
    rfl

end Cert.Kernel.Hand

end
-- ==== Proof.Kernel.Body1.lean ====
/- The run of the pooling kernel's body over whole staging buffers, at the first grid point and at the others. -/
module

public import proofs.«01_k».proof.Proof.Kernel.Body0
public import proofs.«01_k».proof.Proof.Gen.Kernel.Skeleton
public import proofs.«01_k».proof.Proof.Gen.Kernel.Launch
public import proofs.«01_k».proof.Proof.Gen.Kernel.Points
public import Idealize.ShloMosaic.Lib.Pipeline.Frame
public import Idealize.ShloMosaic.Lib.VecWindow
public import Idealize.ShloMosaic.Lib.Pipeline.FrameBody
public import Idealize.ShloMosaic.Lib.Tactic

@[expose] public section

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The word `k` of the document lengths, as the body's scalar load reads it. -/
def lenAt (x1 : Vec F S3 .i32) : Fin 3 → Elt F .i32
  | 0 => x1 ((Rect.unit (s := S3) ![0] S1.size inb_S3_S1_0).idx (Shape.Idx.first (numel1_S1.symm ▸ Nat.one_pos)))
  | 1 => x1 ((Rect.unit (s := S3) ![1] S1.size inb_S3_S1_1).idx (Shape.Idx.first (numel1_S1.symm ▸ Nat.one_pos)))
  | 2 => x1 ((Rect.unit (s := S3) ![2] S1.size inb_S3_S1_2).idx (Shape.Idx.first (numel1_S1.symm ▸ Nat.one_pos)))

/-- The requantising scale, as the body's scalar load reads it. -/
def impAt (x2 : Vec F S1x1 .f32) : Elt F .f32 :=
  x2 ((Rect.unit (s := S1x1) ![0, 0] S1x1.size inb_S1x1_S1x1_0_0).idx (Shape.Idx.first (numel1_S1x1.symm ▸ Nat.one_pos)))

/-- The unmasked block of pooled values, of the three documents, from the kernel's blocks. -/
def poolPre (x1 : Vec F S3 .i32) (x3 : Vec F S1536x768 .fp8e4m3) (x4 : Vec F S1536x1 .f32) (x5 : Vec F S1024x768 .fp8e4m3) (x6 : Vec F S1x1024 .f32) (x7 : Vec F S1x1024 .f32) : FVec F S3x1024 .f32 :=
  k1_pay5 (k1_pay3 (View.ld x3 (Rect.unit (s := S1536x768) ![0, 0] S512x768.size inb_S1536x768_S512x768_0_0)) x5
      (View.ld x4 (Rect.unit (s := S1536x1) ![0, 0] S512x1.size inb_S1536x1_S512x1_0_0)) x6 x7 (lenAt x1 0))
    (k1_pay4 (View.ld x3 (Rect.unit (s := S1536x768) ![512, 0] S512x768.size inb_S1536x768_S512x768_512_0)) x5
      (View.ld x4 (Rect.unit (s := S1536x1) ![512, 0] S512x1.size inb_S1536x1_S512x1_512_0)) x6)
    x7 (lenAt x1 1)
    (View.ld x3 (Rect.unit (s := S1536x768) ![1024, 0] S512x768.size inb_S1536x768_S512x768_1024_0)) x5
    (View.ld x4 (Rect.unit (s := S1536x1) ![1024, 0] S512x1.size inb_S1536x1_S512x1_1024_0)) x6 x7 (lenAt x1 2)

/-- The grid point as the body's word. -/
abbrev gw (i : grid1.Coords) : BitVec 32 := BitVec.ofNat 32 (i 0).val

/-- The body's test for the first grid point. -/
abbrev isFirst (i : grid1.Coords) : Prop :=
  Scalar.cmpi .ne (Scalar.extui (Scalar.cmpi .eq (gw i) 0#32)) 0#32 = 1#1

/-- What one grid step leaves in its six results, from the pooled block `p` and the scale `q`. -/
def outRep (i : grid1.Coords) (p : FVec F S3x1024 .f32) : FVec F S3x1024 .f32 := k1_pay7 (gw i) p
def outCodes (i : grid1.Coords) (p : FVec F S3x1024 .f32) (q : Elt F .f32) : IVec S3x1024 8 := k1_pay8 (gw i) p q
def outMean (i : grid1.Coords) (p : FVec F S3x1024 .f32) : FVec F S1x1024 .f32 := k1_pay9 (gw i) p
def outL1 (i : grid1.Coords) (p : FVec F S3x1024 .f32) (a : FVec F S3x1 .f32) : FVec F S3x1 .f32 := k1_pay13 (gw i) p a
def outSat (i : grid1.Coords) (p : FVec F S3x1024 .f32) (q : Elt F .f32) (a : FVec F S3x1 .f32) : FVec F S3x1 .f32 :=
  k1_pay1 (k1_pay6 (gw i)) (k1_pay7 (gw i) p) q a
def outFlops (i : grid1.Coords) (p : FVec F S3x1024 .f32) (a : FVec F S1x1 .f32) : FVec F S1x1 .f32 := k1_pay2 (k1_pay9 (gw i) p) a

/-- One grid step of the pooling kernel, the first: the three accumulators are set to zero and then added to. -/
theorem pool_run_first (c : Dev nD) (E : Set ℕ) (i : grid1.Coords) (hi : isFirst i)
    (arg1 : Memref sig .tc .smem S3 .i32) (harg1 : arg1.IsWhole) (arg2 : Memref sig .tc .smem S1x1 .f32) (harg2 : arg2.IsWhole) (arg3 : Memref sig .tc .vmem S1536x768 .fp8e4m3) (harg3 : arg3.IsWhole) (arg4 : Memref sig .tc .vmem S1536x1 .f32) (harg4 : arg4.IsWhole) (arg5 : Memref sig .tc .vmem S1024x768 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S3x1024 .f32) (harg8 : arg8.IsWhole) (arg9 : Memref sig .tc .vmem S3x1 .f32) (harg9 : arg9.IsWhole) (arg10 : Memref sig .tc .vmem S1x1024 .f32) (harg10 : arg10.IsWhole) (arg11 : Memref sig .tc .vmem S1x1 .f32) (harg11 : arg11.IsWhole) (arg12 : Memref sig .tc .vmem S3x1024 .i8) (harg12 : arg12.IsWhole) (arg13 : Memref sig .tc .vmem S3x1 .f32) (harg13 : arg13.IsWhole)
    (x1 : Vec F S3 .i32) (x2 : Vec F S1x1 .f32) (x3 : Vec F S1536x768 .fp8e4m3) (x4 : Vec F S1536x1 .f32) (x5 : Vec F S1024x768 .fp8e4m3) (x6 : Vec F S1x1024 .f32) (x7 : Vec F S1x1024 .f32) (x8 : Vec F S3x1024 .f32) (x9 : Vec F S3x1 .f32) (x10 : Vec F S1x1024 .f32) (x11 : Vec F S1x1 .f32) (x12 : Vec F S3x1024 .i8) (x13 : Vec F S3x1 .f32) (K : PUnit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outRep i (poolPre x1 x3 x4 x5 x6 x7)) ∗ owns (c : Thread nD τ) arg9 fullShare (outL1 i (poolPre x1 x3 x4 x5 x6 x7) (k1_pay10 (F := F))) ∗ owns (c : Thread nD τ) arg10 fullShare (outMean i (poolPre x1 x3 x4 x5 x6 x7)) ∗ owns (c : Thread nD τ) arg11 fullShare (outFlops i (poolPre x1 x3 x4 x5 x6 x7) (k1_pay12 (F := F))) ∗ owns (c : Thread nD τ) arg12 fullShare (outCodes i (poolPre x1 x3 x4 x5 x6 x7) (impAt x2)) ∗ owns (c : Thread nD τ) arg13 fullShare (outSat i (poolPre x1 x3 x4 x5 x6 x7) (impAt x2) (k1_pay11 (F := F)))) -∗ K ⟨⟩))
      ⊢ wp frame (wpE (defs₀ (F := F)) Variants.none c none) E
          (cc1_pool i arg1 harg1 arg2 harg2 arg3 harg3 arg4 harg4 arg5 harg5 arg6 harg6 arg7 harg7 arg8 harg8 arg9 harg9 arg10 harg10 arg11 harg11 arg12 harg12 arg13 harg13) K := by
  simp only [cc1_pool_eq_skeleton]; unfold cc1_pool_skel
  simp only [k1_part1_eq_skeleton, k1_part2_eq_skeleton, k1_part3_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  have hr5 : View.readAt (Elt F) arg5.view (Rect.unit (s := S1024x768) ![0, 0] ![1024, 768] inb_S1024x768_S1024x768_0_0).toLoadRect f5 = x5 := (View.readAt_full _ _ _).trans hf5
  have hr6 : View.readAt (Elt F) arg6.view (Rect.unit (s := S1x1024) ![0, 0] ![1, 1024] inb_S1x1024_S1x1024_0_0).toLoadRect f6 = x6 := (View.readAt_full _ _ _).trans hf6
  have hr7 : View.readAt (Elt F) arg7.view (Rect.unit (s := S1x1024) ![0, 0] ![1, 1024] inb_S1x1024_S1x1024_0_0).toLoadRect f7 = x7 := (View.readAt_full _ _ _).trans hf7
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; (· iexact H8); ipureintro
    subst hf1 hf2 hf3 hf4
    refine (View.read_writes_full _ _ _ _ _).trans ?_
    sl_unfold_run_names
    rfl
  isplitl [H9]
  · iexists _; isplitr; swap; (· iexact H9); ipureintro
    subst hf1 hf2 hf3 hf4
    refine (View.read_writes_full _ _ _ _ _).trans ?_
    sl_unfold_run_names
    rw [View.readCov_full]
    rfl
  isplitl [H10]
  · iexists _; isplitr; swap; (· iexact H10); ipureintro
    subst hf1 hf2 hf3 hf4
    refine (View.read_writes_full _ _ _ _ _).trans ?_
    sl_unfold_run_names
    rfl
  isplitl [H11]
  · iexists _; isplitr; swap; (· iexact H11); ipureintro
    subst hf1 hf2 hf3 hf4
    refine (View.read_writes_full _ _ _ _ _).trans ?_
    sl_unfold_run_names
    rw [View.readCov_full]
    rfl
  isplitl [H12]
  · iexists _; isplitr; swap; (· iexact H12); ipureintro
    subst hf1 hf2 hf3 hf4
    refine (View.read_writes_full _ _ _ _ _).trans ?_
    sl_unfold_run_names
    rfl
  · iexists _; isplitr; swap; (· iexact H13); ipureintro
    subst hf1 hf2 hf3 hf4
    refine (View.read_writes_full _ _ _ _ _).trans ?_
    sl_unfold_run_names
    rw [View.readCov_full]
    rfl

/-- One grid step of the pooling kernel, not the first: the three accumulators are added to. -/
theorem pool_run_later (c : Dev nD) (E : Set ℕ) (i : grid1.Coords) (hi : ¬ isFirst i)
    (arg1 : Memref sig .tc .smem S3 .i32) (harg1 : arg1.IsWhole) (arg2 : Memref sig .tc .smem S1x1 .f32) (harg2 : arg2.IsWhole) (arg3 : Memref sig .tc .vmem S1536x768 .fp8e4m3) (harg3 : arg3.IsWhole) (arg4 : Memref sig .tc .vmem S1536x1 .f32) (harg4 : arg4.IsWhole) (arg5 : Memref sig .tc .vmem S1024x768 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S3x1024 .f32) (harg8 : arg8.IsWhole) (arg9 : Memref sig .tc .vmem S3x1 .f32) (harg9 : arg9.IsWhole) (arg10 : Memref sig .tc .vmem S1x1024 .f32) (harg10 : arg10.IsWhole) (arg11 : Memref sig .tc .vmem S1x1 .f32) (harg11 : arg11.IsWhole) (arg12 : Memref sig .tc .vmem S3x1024 .i8) (harg12 : arg12.IsWhole) (arg13 : Memref sig .tc .vmem S3x1 .f32) (harg13 : arg13.IsWhole)
    (x1 : Vec F S3 .i32) (x2 : Vec F S1x1 .f32) (x3 : Vec F S1536x768 .fp8e4m3) (x4 : Vec F S1536x1 .f32) (x5 : Vec F S1024x768 .fp8e4m3) (x6 : Vec F S1x1024 .f32) (x7 : Vec F S1x1024 .f32) (x8 : Vec F S3x1024 .f32) (x9 : Vec F S3x1 .f32) (x10 : Vec F S1x1024 .f32) (x11 : Vec F S1x1 .f32) (x12 : Vec F S3x1024 .i8) (x13 : Vec F S3x1 .f32) (K : PUnit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outRep i (poolPre x1 x3 x4 x5 x6 x7)) ∗ owns (c : Thread nD τ) arg9 fullShare (outL1 i (poolPre x1 x3 x4 x5 x6 x7) x9) ∗ owns (c : Thread nD τ) arg10 fullShare (outMean i (poolPre x1 x3 x4 x5 x6 x7)) ∗ owns (c : Thread nD τ) arg11 fullShare (outFlops i (poolPre x1 x3 x4 x5 x6 x7) x11) ∗ owns (c : Thread nD τ) arg12 fullShare (outCodes i (poolPre x1 x3 x4 x5 x6 x7) (impAt x2)) ∗ owns (c : Thread nD τ) arg13 fullShare (outSat i (poolPre x1 x3 x4 x5 x6 x7) (impAt x2) x13)) -∗ K ⟨⟩))
      ⊢ wp frame (wpE (defs₀ (F := F)) Variants.none c none) E
          (cc1_pool i arg1 harg1 arg2 harg2 arg3 harg3 arg4 harg4 arg5 harg5 arg6 harg6 arg7 harg7 arg8 harg8 arg9 harg9 arg10 harg10 arg11 harg11 arg12 harg12 arg13 harg13) K := by
  simp only [cc1_pool_eq_skeleton]; unfold cc1_pool_skel
  simp only [k1_part1_eq_skeleton, k1_part2_eq_skeleton, k1_part3_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  have hr5 : View.readAt (Elt F) arg5.view (Rect.unit (s := S1024x768) ![0, 0] ![1024, 768] inb_S1024x768_S1024x768_0_0).toLoadRect f5 = x5 := (View.readAt_full _ _ _).trans hf5
  have hr6 : View.readAt (Elt F) arg6.view (Rect.unit (s := S1x1024) ![0, 0] ![1, 1024] inb_S1x1024_S1x1024_0_0).toLoadRect f6 = x6 := (View.readAt_full _ _ _).trans hf6
  have hr7 : View.readAt (Elt F) arg7.view (Rect.unit (s := S1x1024) ![0, 0] ![1, 1024] inb_S1x1024_S1x1024_0_0).toLoadRect f7 = x7 := (View.readAt_full _ _ _).trans hf7
  have hr9 : View.readAt (Elt F) arg9.view (Rect.unit (s := S3x1) ![0, 0] ![3, 1] inb_S3x1_S3x1_0_0).toLoadRect f9 = x9 := (View.readAt_full _ _ _).trans hf9
  have hr13 : View.readAt (Elt F) arg13.view (Rect.unit (s := S3x1) ![0, 0] ![3, 1] inb_S3x1_S3x1_0_0).toLoadRect f13 = x13 := (View.readAt_full _ _ _).trans hf13
  have hr11 : View.readAt (Elt F) arg11.view (Rect.unit (s := S1x1) ![0, 0] ![1, 1] inb_S1x1_S1x1_0_0).toLoadRect f11 = x11 := (View.readAt_full _ _ _).trans hf11
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; (· iexact H8); ipureintro
    subst hf1 hf2 hf3 hf4
    refine (View.read_writes_full _ _ _ _ _).trans ?_
    sl_unfold_run_names
    rfl
  isplitl [H9]
  · iexists _; isplitr; swap; (· iexact H9); ipureintro
    subst hf1 hf2 hf3 hf4
    refine (View.read_writes_full _ _ _ _ _).trans ?_
    sl_unfold_run_names
    rfl
  isplitl [H10]
  · iexists _; isplitr; swap; (· iexact H10); ipureintro
    subst hf1 hf2 hf3 hf4
    refine (View.read_writes_full _ _ _ _ _).trans ?_
    sl_unfold_run_names
    rfl
  isplitl [H11]
  · iexists _; isplitr; swap; (· iexact H11); ipureintro
    subst hf1 hf2 hf3 hf4
    refine (View.read_writes_full _ _ _ _ _).trans ?_
    sl_unfold_run_names
    rfl
  isplitl [H12]
  · iexists _; isplitr; swap; (· iexact H12); ipureintro
    subst hf1 hf2 hf3 hf4
    refine (View.read_writes_full _ _ _ _ _).trans ?_
    sl_unfold_run_names
    rfl
  · iexists _; isplitr; swap; (· iexact H13); ipureintro
    subst hf1 hf2 hf3 hf4
    refine (View.read_writes_full _ _ _ _ _).trans ?_
    sl_unfold_run_names
    rfl

end Cert.Kernel.Hand

end
-- ==== Proof.Kernel.Data.lean ====
/- The proof data of the two kernel regions: what the arrays hold at entry and what each grid step leaves in every staging buffer. -/
module

public import proofs.«01_k».proof.Proof.Kernel.Body0
public import proofs.«01_k».proof.Proof.Kernel.Body1
public import proofs.«01_k».proof.Proof.Gen.Kernel.Regions
public import Idealize.ShloMosaic.Lib.Pipeline.FrameBody
public import proofs.«01_k».proof.Proof.Gen.Kernel.Skeleton
public import proofs.«01_k».proof.Proof.Gen.Kernel.Launch
public import proofs.«01_k».proof.Proof.Gen.Kernel.Points
public import Idealize.ShloMosaic.Lib.Pipeline.Frame
public import Idealize.ShloMosaic.Lib.VecWindow
public import Idealize.ShloMosaic.Lib.Tactic

@[expose] public section

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The block of window `w` of the first region at point `t`, read off its array at the region's entry. -/
abbrev blk0 (c : Dev nD) (w : Fin cfg0.W) (t : Fin cfg0.N) : ((cfg0.win w).xblock (grid0.coords t)).Idx → Elt F (cfg0.win w).elt :=
  ((cfg0.win w).blk t).view.read (Elt F) (V1 m c (Pipeline.arrRef spec0 w))

/-- The normalised rows of point `t`. -/
def nrm0 (c : Dev nD) (t : Fin cfg0.N) : FVec F S256x768 .f32 :=
  k0_pay4 (blk0 m c 0 t) (blk0 m c 2 t) (blk0 m c 1 t) (blk0 m c 3 t) (blk0 m c 4 t)
/-- The requantised rows of point `t`: codes, -/
def z0 (c : Dev nD) (t : Fin cfg0.N) : FVec F S256x768 .fp8e4m3 := k0_pay3 (nrm0 m c t) (blk0 m c 5 t) (blk0 m c 6 t)
/-- and scales. -/
def s0 (c : Dev nD) (t : Fin cfg0.N) : FVec F S256x1 .f32 := k0_pay2 (nrm0 m c t) (blk0 m c 5 t) (blk0 m c 6 t)

/-- The first region's proof data. -/
def dat0 (c : Dev nD) : Dat τ (Elt F) Unit ℕ (UR sig nD τ) ℕ cfg0 c where
  A w := V1 m c (Pipeline.arrRef spec0 w)
  after w t := match w with
    | ⟨0, _⟩ => blk0 m c 0 t
    | ⟨1, _⟩ => blk0 m c 1 t
    | ⟨2, _⟩ => blk0 m c 2 t
    | ⟨3, _⟩ => blk0 m c 3 t
    | ⟨4, _⟩ => blk0 m c 4 t
    | ⟨5, _⟩ => blk0 m c 5 t
    | ⟨6, _⟩ => blk0 m c 6 t
    | ⟨7, _⟩ => z0 m c t
    | ⟨8, _⟩ => s0 m c t
  Φ _ := Pipeline.scopedRest (Ix := Unit) (Name := ℕ) (U := UR sig nD τ) (Lvl := ℕ) (Val := Elt F) spec0 c
  q _ := fullShare
  owed _ := 0

/-- The codes and the scales that the first region leaves in its two result arrays. -/
def zArr (c : Dev nD) : Buf (Elt F) ((c : Thread nD τ).loc main_v6_0) := (dat0 m c).arrAt 7 cfg0.N
def sArr (c : Dev nD) : Buf (Elt F) ((c : Thread nD τ).loc main_v6_1) := (dat0 m c).arrAt 8 cfg0.N

/-- The first region's results as a valuation, -/
def res0 (c : Dev nD) : Valuation τ sig (Elt F) := Function.update (Function.update (V1 m c) main_v6_0 (zArr m c)) main_v6_1 (sArr m c)
/-- and as what the generated valuations are written over. -/
def outs0 : Outs (F := F) := fun _ r c => res0 m c r

/-- The unscoped buffers when the second region is entered. -/
abbrev W3 (c : Dev nD) : Valuation τ sig (Elt F) := V3 m (outs0 m) c

/-- The block of window `w` of the second region at point `t`, cut at the array's end. -/
abbrev blk1 (c : Dev nD) (w : Fin cfg1.W) (t : Fin cfg1.N) : ((cfg1.win w).xblock (grid1.coords t)).Idx → Elt F (cfg1.win w).elt :=
  ((cfg1.win w).blk t).view.read (Elt F) (W3 m c (Pipeline.arrRef spec1 w))
/-- Its staging buffer: the block filled out with anything. -/
abbrev fil1 (c : Dev nD) (w : Fin cfg1.W) (t : Fin cfg1.N) : (cfg1.win w).block.Idx → Elt F (cfg1.win w).elt :=
  (cfg1.win w).fill (grid1.coords t) (fun _ => Classical.arbitrary _) (blk1 m c w t)

/-- The pooled values at point `t`, the three clipped operands' buffers given. -/
abbrev poolOf (c : Dev nD) (t : Fin cfg1.N) (x5 : Vec F S1024x768 .fp8e4m3) (x6 x7 : Vec F S1x1024 .f32) : FVec F S3x1024 .f32 :=
  poolPre (blk1 m c 0 t) (blk1 m c 2 t) (blk1 m c 3 t) x5 x6 x7
/-- The pooled values of point `t`. -/
def pool1 (c : Dev nD) (t : Fin cfg1.N) : FVec F S3x1024 .f32 := poolOf m c t (fil1 m c 4 t) (fil1 m c 5 t) (fil1 m c 6 t)
/-- The requantising scale. -/
abbrev imp1 (c : Dev nD) (t : Fin cfg1.N) : Elt F .f32 := impAt (blk1 m c 1 t)

/-- The three accumulators after each point. -/
def accL1 (c : Dev nD) : (n : ℕ) → n < cfg1.N → FVec F S3x1 .f32
  | 0, h => outL1 (grid1.coords ⟨0, h⟩) (pool1 m c ⟨0, h⟩) k1_pay10
  | n + 1, h => outL1 (grid1.coords ⟨n + 1, h⟩) (pool1 m c ⟨n + 1, h⟩) (accL1 c n (Nat.lt_of_succ_lt h))
def accFlops (c : Dev nD) : (n : ℕ) → n < cfg1.N → FVec F S1x1 .f32
  | 0, h => outFlops (grid1.coords ⟨0, h⟩) (pool1 m c ⟨0, h⟩) k1_pay12
  | n + 1, h => outFlops (grid1.coords ⟨n + 1, h⟩) (pool1 m c ⟨n + 1, h⟩) (accFlops c n (Nat.lt_of_succ_lt h))
def accSat (c : Dev nD) : (n : ℕ) → n < cfg1.N → FVec F S3x1 .f32
  | 0, h => outSat (grid1.coords ⟨0, h⟩) (pool1 m c ⟨0, h⟩) (imp1 m c ⟨0, h⟩) k1_pay11
  | n + 1, h => outSat (grid1.coords ⟨n + 1, h⟩) (pool1 m c ⟨n + 1, h⟩) (imp1 m c ⟨n + 1, h⟩) (accSat c n (Nat.lt_of_succ_lt h))

/-- The second region's proof data. -/
def dat1 (c : Dev nD) : Dat τ (Elt F) Unit ℕ (UR sig nD τ) ℕ cfg1 c where
  A w := W3 m c (Pipeline.arrRef spec1 w)
  after w t := match w with
    | ⟨0, _⟩ => blk1 m c 0 t
    | ⟨1, _⟩ => blk1 m c 1 t
    | ⟨2, _⟩ => blk1 m c 2 t
    | ⟨3, _⟩ => blk1 m c 3 t
    | ⟨4, _⟩ => fil1 m c 4 t
    | ⟨5, _⟩ => fil1 m c 5 t
    | ⟨6, _⟩ => fil1 m c 6 t
    | ⟨7, _⟩ => outRep (grid1.coords t) (pool1 m c t)
    | ⟨8, _⟩ => accL1 m c t.val t.isLt
    | ⟨9, _⟩ => outMean (grid1.coords t) (pool1 m c t)
    | ⟨10, _⟩ => accFlops m c t.val t.isLt
    | ⟨11, _⟩ => outCodes (grid1.coords t) (pool1 m c t) (imp1 m c t)
    | ⟨12, _⟩ => accSat m c t.val t.isLt
  Φ _ := Pipeline.scopedRest (Ix := Unit) (Name := ℕ) (U := UR sig nD τ) (Lvl := ℕ) (Val := Elt F) spec1 c
  q _ := fullShare
  owed _ := 0

/-- The family of both. -/
def pdats : (p : Fin 2) → (c : Dev nD) → Dat τ (Elt F) Unit ℕ (UR sig nD τ) ℕ (cfgs p) c
  | ⟨0, _⟩ => dat0 m
  | ⟨1, _⟩ => dat1 m

/-! ## What a staging buffer holds when the body runs -/

theorem before0_0 (c : Dev nD) (t : Fin cfg0.N) (d) : (dat0 m c).before 0 t d = blk0 m c 0 t :=
  (dat0 m c).before_in_eq_fetched 0 rfl (fun _ => rfl) (fun _ _ _ => rfl) (fun _ => rfl) t d
theorem before0_1 (c : Dev nD) (t : Fin cfg0.N) (d) : (dat0 m c).before 1 t d = blk0 m c 1 t :=
  (dat0 m c).before_in_eq_fetched 1 rfl (fun _ => rfl) (fun _ _ _ => rfl) (fun _ => rfl) t d
theorem before0_2 (c : Dev nD) (t : Fin cfg0.N) (d) : (dat0 m c).before 2 t d = blk0 m c 2 t :=
  (dat0 m c).before_in_eq_fetched 2 rfl (fun _ => rfl) (fun _ _ _ => rfl) (fun _ => rfl) t d
theorem before0_3 (c : Dev nD) (t : Fin cfg0.N) (d) : (dat0 m c).before 3 t d = blk0 m c 3 t :=
  (dat0 m c).before_in_eq_fetched 3 rfl (fun _ => rfl) (fun _ _ _ => rfl) (fun _ => rfl) t d
theorem before0_4 (c : Dev nD) (t : Fin cfg0.N) (d) : (dat0 m c).before 4 t d = blk0 m c 4 t :=
  (dat0 m c).before_in_eq_fetched 4 rfl (fun _ => rfl) (fun _ _ _ => rfl) (fun _ => rfl) t d
theorem before0_5 (c : Dev nD) (t : Fin cfg0.N) (d) : (dat0 m c).before 5 t d = blk0 m c 5 t :=
  (dat0 m c).before_in_eq_fetched 5 rfl (fun _ => rfl) (fun _ _ _ => rfl) (fun _ => rfl) t d
theorem before0_6 (c : Dev nD) (t : Fin cfg0.N) (d) : (dat0 m c).before 6 t d = blk0 m c 6 t :=
  (dat0 m c).before_in_eq_fetched 6 rfl (fun _ => rfl) (fun _ _ _ => rfl) (fun _ => rfl) t d
theorem before1_0 (c : Dev nD) (t : Fin cfg1.N) (d) : (dat1 m c).before 0 t d = blk1 m c 0 t :=
  (dat1 m c).before_in_eq_fetched 0 rfl (fun _ => rfl) (fun _ _ _ => rfl) (fun _ => rfl) t d
theorem before1_1 (c : Dev nD) (t : Fin cfg1.N) (d) : (dat1 m c).before 1 t d = blk1 m c 1 t :=
  (dat1 m c).before_in_eq_fetched 1 rfl (fun _ => rfl) (fun _ _ _ => rfl) (fun _ => rfl) t d
theorem before1_2 (c : Dev nD) (t : Fin cfg1.N) (d) : (dat1 m c).before 2 t d = blk1 m c 2 t :=
  (dat1 m c).before_in_eq_fetched 2 rfl (fun _ => rfl) (fun _ _ _ => rfl) (fun _ => rfl) t d
theorem before1_3 (c : Dev nD) (t : Fin cfg1.N) (d) : (dat1 m c).before 3 t d = blk1 m c 3 t :=
  (dat1 m c).before_in_eq_fetched 3 rfl (fun _ => rfl) (fun _ _ _ => rfl) (fun _ => rfl) t d
theorem before1_4 (c : Dev nD) (t : Fin cfg1.N) (d) : (dat1 m c).before 4 t d = win1_4.fill (grid1.coords t) d (blk1 m c 4 t) := by
  unfold Dat.before; rw [if_pos (fetch1_4 t)]; rfl
theorem before1_5 (c : Dev nD) (t : Fin cfg1.N) (d) : (dat1 m c).before 5 t d = win1_5.fill (grid1.coords t) d (blk1 m c 5 t) := by
  unfold Dat.before; rw [if_pos (fetch1_5 t)]; rfl
theorem before1_6 (c : Dev nD) (t : Fin cfg1.N) (d) : (dat1 m c).before 6 t d = win1_6.fill (grid1.coords t) d (blk1 m c 6 t) := by
  unfold Dat.before; rw [if_pos (fetch1_6 t)]; rfl

/-! ## The first region's body -/

/-- From the staging buffers as fetched, the transform kernel leaves the proof data's contents. -/
theorem body0 (c : Dev nD) : BodyObligationLoose (dat0 m c) (defs₀ (F := F)) Variants.none () Set.univ := fun t => by
  rw [bigSep_W0, bigSep_W0]
  simp only
  rw [show (dat0 m c).Φ t.succ = (dat0 m c).Φ t.castSucc from rfl,
    show (dat0 m c).owesAt () t.succ = (dat0 m c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4, before0_5 m c t d5, before0_6 m c t d6]
  iapply (transform_run (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (blk0 m c 0 t) (blk0 m c 1 t) (blk0 m c 2 t) (blk0 m c 3 t) (blk0 m c 4 t) (blk0 m c 5 t) (blk0 m c 6 t) ((dat0 m c).before 7 t d7) ((dat0 m c).before 8 t d8) _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.Kernel.Obl.lean ====
/- The body obligations of the pooling region: with its results forgotten, and with them exact. -/
module

public import proofs.«01_k».proof.Proof.Kernel.Data
public import proofs.«01_k».proof.Proof.Gen.Kernel.Skeleton
public import proofs.«01_k».proof.Proof.Gen.Kernel.Launch
public import proofs.«01_k».proof.Proof.Gen.Kernel.Points
public import Idealize.ShloMosaic.Lib.Pipeline.Frame
public import Idealize.ShloMosaic.Lib.VecWindow
public import Idealize.ShloMosaic.Lib.Tactic

@[expose] public section

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The grid coordinate of a point is its number. -/
theorem coord1 : ∀ t : Fin grid1.N, ((grid1.coords t) 0).val = t.val := by decide +kernel

/-- The body takes its first branch at the first point only. -/
theorem isFirst_iff : ∀ t : Fin grid1.N, isFirst (grid1.coords t) ↔ t.val = 0 := by decide +kernel

/-- The second region's windows that hold its results. -/
abbrev results1 : Fin cfg1.W → Bool := fun
  | 0 => false | 1 => false | 2 => false | 3 => false | 4 => false | 5 => false | 6 => false | 7 => true | 8 => true | 9 => true | 10 => true | 11 => true | 12 => true | ⟨_ + 13, h⟩ => absurd h (Nat.not_lt.2 (Nat.le_add_left _ _))
/-- No window. -/
abbrev none1 : Fin cfg1.W → Bool := fun _ => false

/-! ## What a step leaves depends on the pooled block inside the array only -/

theorem outCodes_congr (i : grid1.Coords) {p p' : FVec F S3x1024 .f32} (h : outRep i p = outRep i p') (q : Elt F .f32) : outCodes i p q = outCodes i p' q := by
  unfold outRep at h; unfold outCodes k1_pay8; rw [h]
theorem outMean_congr (i : grid1.Coords) {p p' : FVec F S3x1024 .f32} (h : outRep i p = outRep i p') : outMean i p = outMean i p' := by
  unfold outRep at h; unfold outMean k1_pay9; rw [h]
theorem outL1_congr (i : grid1.Coords) {p p' : FVec F S3x1024 .f32} (h : outRep i p = outRep i p') (a : FVec F S3x1 .f32) : outL1 i p a = outL1 i p' a := by
  unfold outRep at h; unfold outL1 k1_pay13; rw [h]
theorem outSat_congr (i : grid1.Coords) {p p' : FVec F S3x1024 .f32} (h : outRep i p = outRep i p') (q : Elt F .f32) (a : FVec F S3x1 .f32) :
    outSat i p q a = outSat i p' q a := by
  unfold outRep at h; unfold outSat; rw [h]
theorem outFlops_congr (i : grid1.Coords) {p p' : FVec F S3x1024 .f32} (h : outRep i p = outRep i p') (a : FVec F S1x1 .f32) : outFlops i p a = outFlops i p' a := by
  have h' := outMean_congr i h; unfold outMean at h'; unfold outFlops; rw [h']

/-! ## The accumulators -/

theorem accL1_first (c : Dev nD) (t : Fin cfg1.N) (h : t.val = 0) :
    accL1 m c t.val t.isLt = outL1 (grid1.coords t) (pool1 m c t) k1_pay10 := by
  obtain ⟨n, hn⟩ := t; obtain rfl : n = 0 := h; rfl
theorem accFlops_first (c : Dev nD) (t : Fin cfg1.N) (h : t.val = 0) :
    accFlops m c t.val t.isLt = outFlops (grid1.coords t) (pool1 m c t) k1_pay12 := by
  obtain ⟨n, hn⟩ := t; obtain rfl : n = 0 := h; rfl
theorem accSat_first (c : Dev nD) (t : Fin cfg1.N) (h : t.val = 0) :
    accSat m c t.val t.isLt = outSat (grid1.coords t) (pool1 m c t) (imp1 m c t) k1_pay11 := by
  obtain ⟨n, hn⟩ := t; obtain rfl : n = 0 := h; rfl

theorem accL1_later (c : Dev nD) (t : Fin cfg1.N) (h : t.val ≠ 0) :
    accL1 m c t.val t.isLt = outL1 (grid1.coords t) (pool1 m c t) (accL1 m c (t.val - 1) (Nat.lt_of_le_of_lt (Nat.sub_le _ _) t.isLt)) := by
  obtain ⟨n, hn⟩ := t; cases n with | zero => exact absurd rfl h | succ n => rfl
theorem accFlops_later (c : Dev nD) (t : Fin cfg1.N) (h : t.val ≠ 0) :
    accFlops m c t.val t.isLt = outFlops (grid1.coords t) (pool1 m c t) (accFlops m c (t.val - 1) (Nat.lt_of_le_of_lt (Nat.sub_le _ _) t.isLt)) := by
  obtain ⟨n, hn⟩ := t; cases n with | zero => exact absurd rfl h | succ n => rfl
theorem accSat_later (c : Dev nD) (t : Fin cfg1.N) (h : t.val ≠ 0) :
    accSat m c t.val t.isLt = outSat (grid1.coords t) (pool1 m c t) (imp1 m c t) (accSat m c (t.val - 1) (Nat.lt_of_le_of_lt (Nat.sub_le _ _) t.isLt)) := by
  obtain ⟨n, hn⟩ := t; cases n with | zero => exact absurd rfl h | succ n => rfl

theorem before1_8 (c : Dev nD) (t : Fin cfg1.N) (ht : t.val ≠ 0) (d) :
    (dat1 m c).before 8 t d = accL1 m c (t.val - 1) (Nat.lt_of_le_of_lt (Nat.sub_le _ _) t.isLt) :=
  (dat1 m c).before_out_kept 8 rfl t ht (by
    have h := t.isLt
    rw [Bool.eq_false_iff, ne_eq, flush1_8]
    have : t.val < 50 := lt_of_lt_of_eq h N_1
    show ¬ (t.val - 1) % 50 = 49
    omega) (fun _ => rfl) (fun _ a => by fin_cases a <;> rfl) d
theorem before1_10 (c : Dev nD) (t : Fin cfg1.N) (ht : t.val ≠ 0) (d) :
    (dat1 m c).before 10 t d = accFlops m c (t.val - 1) (Nat.lt_of_le_of_lt (Nat.sub_le _ _) t.isLt) :=
  (dat1 m c).before_out_kept 10 rfl t ht (by
    have h := t.isLt
    rw [Bool.eq_false_iff, ne_eq, flush1_10]
    have : t.val < 50 := lt_of_lt_of_eq h N_1
    show ¬ (t.val - 1) % 50 = 49
    omega) (fun _ => rfl) (fun _ a => by fin_cases a <;> rfl) d
theorem before1_12 (c : Dev nD) (t : Fin cfg1.N) (ht : t.val ≠ 0) (d) :
    (dat1 m c).before 12 t d = accSat m c (t.val - 1) (Nat.lt_of_le_of_lt (Nat.sub_le _ _) t.isLt) :=
  (dat1 m c).before_out_kept 12 rfl t ht (by
    have h := t.isLt
    rw [Bool.eq_false_iff, ne_eq, flush1_12]
    have : t.val < 50 := lt_of_lt_of_eq h N_1
    show ¬ (t.val - 1) % 50 = 49
    omega) (fun _ => rfl) (fun _ a => by fin_cases a <;> rfl) d

/-! ## The obligations -/

set_option maxHeartbeats 4000000 in
/-- With the results forgotten: the body runs, and leaves the operands' buffers as fetched. -/
theorem body1_forget (c : Dev nD) : BodyObligationLoose (dat1 m c) (defs₀ (F := F)) Variants.none () Set.univ results1 := fun t => by
  rw [bigSep_W1, bigSep_W1]
  simp only
  rw [show (dat1 m c).Φ t.succ = (dat1 m c).Φ t.castSucc from rfl,
    show (dat1 m c).owesAt () t.succ = (dat1 m c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before1_0 m c t d0, before1_1 m c t d1, before1_2 m c t d2, before1_3 m c t d3, before1_4 m c t d4, before1_5 m c t d5, before1_6 m c t d6]
  by_cases hi : isFirst (grid1.coords t)
  · iapply (pool_run_first (F := F) c Set.univ (grid1.coords t) hi (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12))
      (blk1 m c 0 t) (blk1 m c 1 t) (blk1 m c 2 t) (blk1 m c 3 t) (win1_4.fill (grid1.coords t) d4 (blk1 m c 4 t)) (win1_5.fill (grid1.coords t) d5 (blk1 m c 5 t)) (win1_6.fill (grid1.coords t) d6 (blk1 m c 6 t)) d7 d8 d9 d10 d11 d12 _)
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage1_4 (cfg1.slots t 4)) fullShare (win1_4.fill (grid1.coords t) d4 (win1_4.cut (grid1.coords t) (fil1 m c 4 t)))
      rw [show win1_4.cut (grid1.coords t) (fil1 m c 4 t) = blk1 m c 4 t from win1_4.cut_fill _ _ _]; try iexact H4
    isplitl [H5]
    · iexists d5
      change _ ⊢ owns (c : Thread nD τ) (stage1_5 (cfg1.slots t 5)) fullShare (win1_5.fill (grid1.coords t) d5 (win1_5.cut (grid1.coords t) (fil1 m c 5 t)))
      rw [show win1_5.cut (grid1.coords t) (fil1 m c 5 t) = blk1 m c 5 t from win1_5.cut_fill _ _ _]; try iexact H5
    isplitl [H6]
    · iexists d6
      change _ ⊢ owns (c : Thread nD τ) (stage1_6 (cfg1.slots t 6)) fullShare (win1_6.fill (grid1.coords t) d6 (win1_6.cut (grid1.coords t) (fil1 m c 6 t)))
      rw [show win1_6.cut (grid1.coords t) (fil1 m c 6 t) = blk1 m c 6 t from win1_6.cut_fill _ _ _]; try iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
  · iapply (pool_run_later (F := F) c Set.univ (grid1.coords t) hi (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12))
      (blk1 m c 0 t) (blk1 m c 1 t) (blk1 m c 2 t) (blk1 m c 3 t) (win1_4.fill (grid1.coords t) d4 (blk1 m c 4 t)) (win1_5.fill (grid1.coords t) d5 (blk1 m c 5 t)) (win1_6.fill (grid1.coords t) d6 (blk1 m c 6 t)) d7 d8 d9 d10 d11 d12 _)
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage1_4 (cfg1.slots t 4)) fullShare (win1_4.fill (grid1.coords t) d4 (win1_4.cut (grid1.coords t) (fil1 m c 4 t)))
      rw [show win1_4.cut (grid1.coords t) (fil1 m c 4 t) = blk1 m c 4 t from win1_4.cut_fill _ _ _]; try iexact H4
    isplitl [H5]
    · iexists d5
      change _ ⊢ owns (c : Thread nD τ) (stage1_5 (cfg1.slots t 5)) fullShare (win1_5.fill (grid1.coords t) d5 (win1_5.cut (grid1.coords t) (fil1 m c 5 t)))
      rw [show win1_5.cut (grid1.coords t) (fil1 m c 5 t) = blk1 m c 5 t from win1_5.cut_fill _ _ _]; try iexact H5
    isplitl [H6]
    · iexists d6
      change _ ⊢ owns (c : Thread nD τ) (stage1_6 (cfg1.slots t 6)) fullShare (win1_6.fill (grid1.coords t) d6 (win1_6.cut (grid1.coords t) (fil1 m c 6 t)))
      rw [show win1_6.cut (grid1.coords t) (fil1 m c 6 t) = blk1 m c 6 t from win1_6.cut_fill _ _ _]; try iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

set_option maxHeartbeats 4000000 in
/-- Exact, where the pooled block's columns inside the array do not depend on what fills the fetched blocks out. -/
theorem body1_exact (hind : ∀ (c : Dev nD) (t : Fin cfg1.N) d4 d5 d6,
      outRep (grid1.coords t) (poolOf m c t (win1_4.fill (grid1.coords t) d4 (blk1 m c 4 t)) (win1_5.fill (grid1.coords t) d5 (blk1 m c 5 t))
        (win1_6.fill (grid1.coords t) d6 (blk1 m c 6 t))) = outRep (grid1.coords t) (pool1 m c t)) (c : Dev nD) :
    BodyObligationLoose (dat1 m c) (defs₀ (F := F)) Variants.none () Set.univ none1 := fun t => by
  rw [bigSep_W1, bigSep_W1]
  simp only
  rw [show (dat1 m c).Φ t.succ = (dat1 m c).Φ t.castSucc from rfl,
    show (dat1 m c).owesAt () t.succ = (dat1 m c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before1_0 m c t d0, before1_1 m c t d1, before1_2 m c t d2, before1_3 m c t d3, before1_4 m c t d4, before1_5 m c t d5, before1_6 m c t d6]
  have h := hind c t d4 d5 d6
  by_cases hi : isFirst (grid1.coords t)
  · have ht := (isFirst_iff t).mp hi
    iapply (pool_run_first (F := F) c Set.univ (grid1.coords t) hi (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12))
      (blk1 m c 0 t) (blk1 m c 1 t) (blk1 m c 2 t) (blk1 m c 3 t) (win1_4.fill (grid1.coords t) d4 (blk1 m c 4 t)) (win1_5.fill (grid1.coords t) d5 (blk1 m c 5 t)) (win1_6.fill (grid1.coords t) d6 (blk1 m c 6 t)) ((dat1 m c).before 7 t d7) ((dat1 m c).before 8 t d8) ((dat1 m c).before 9 t d9) ((dat1 m c).before 10 t d10) ((dat1 m c).before 11 t d11) ((dat1 m c).before 12 t d12) _)
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage1_4 (cfg1.slots t 4)) fullShare (win1_4.fill (grid1.coords t) d4 (win1_4.cut (grid1.coords t) (fil1 m c 4 t)))
      rw [show win1_4.cut (grid1.coords t) (fil1 m c 4 t) = blk1 m c 4 t from win1_4.cut_fill _ _ _]; try iexact H4
    isplitl [H5]
    · iexists d5
      change _ ⊢ owns (c : Thread nD τ) (stage1_5 (cfg1.slots t 5)) fullShare (win1_5.fill (grid1.coords t) d5 (win1_5.cut (grid1.coords t) (fil1 m c 5 t)))
      rw [show win1_5.cut (grid1.coords t) (fil1 m c 5 t) = blk1 m c 5 t from win1_5.cut_fill _ _ _]; try iexact H5
    isplitl [H6]
    · iexists d6
      change _ ⊢ owns (c : Thread nD τ) (stage1_6 (cfg1.slots t 6)) fullShare (win1_6.fill (grid1.coords t) d6 (win1_6.cut (grid1.coords t) (fil1 m c 6 t)))
      rw [show win1_6.cut (grid1.coords t) (fil1 m c 6 t) = blk1 m c 6 t from win1_6.cut_fill _ _ _]; try iexact H6
    isplitl [H7]
    · iexists ((dat1 m c).after 7 t)
      change _ ⊢ owns (c : Thread nD τ) (stage1_7 (cfg1.slots t 7)) fullShare (win1_7.fill (grid1.coords t) ((dat1 m c).after 7 t) (win1_7.cut (grid1.coords t) ((dat1 m c).after 7 t)))
      rw [Window.fill_cut, show (dat1 m c).after 7 t = _ from (h).symm]; try iexact H7
    isplitl [H8]
    · change _ ⊢ owns (c : Thread nD τ) (stage1_8 (cfg1.slots t 8)) fullShare ((dat1 m c).after 8 t)
      rw [show (dat1 m c).after 8 t = _ from accL1_first m c t ht, ← outL1_congr _ h _]; try iexact H8
    isplitl [H9]
    · iexists ((dat1 m c).after 9 t)
      change _ ⊢ owns (c : Thread nD τ) (stage1_9 (cfg1.slots t 9)) fullShare (win1_9.fill (grid1.coords t) ((dat1 m c).after 9 t) (win1_9.cut (grid1.coords t) ((dat1 m c).after 9 t)))
      rw [Window.fill_cut, show (dat1 m c).after 9 t = _ from (outMean_congr _ h).symm]; try iexact H9
    isplitl [H10]
    · change _ ⊢ owns (c : Thread nD τ) (stage1_10 (cfg1.slots t 10)) fullShare ((dat1 m c).after 10 t)
      rw [show (dat1 m c).after 10 t = _ from accFlops_first m c t ht, ← outFlops_congr _ h _]; try iexact H10
    isplitl [H11]
    · iexists ((dat1 m c).after 11 t)
      change _ ⊢ owns (c : Thread nD τ) (stage1_11 (cfg1.slots t 11)) fullShare (win1_11.fill (grid1.coords t) ((dat1 m c).after 11 t) (win1_11.cut (grid1.coords t) ((dat1 m c).after 11 t)))
      rw [Window.fill_cut, show (dat1 m c).after 11 t = _ from (outCodes_congr _ h _).symm]; try iexact H11
    · change _ ⊢ owns (c : Thread nD τ) (stage1_12 (cfg1.slots t 12)) fullShare ((dat1 m c).after 12 t)
      rw [show (dat1 m c).after 12 t = _ from accSat_first m c t ht, ← outSat_congr _ h _ _]; try iexact H12
  · have ht := fun h0 => hi ((isFirst_iff t).mpr h0)
    rw [before1_8 m c t ht d8, before1_10 m c t ht d10, before1_12 m c t ht d12]
    iapply (pool_run_later (F := F) c Set.univ (grid1.coords t) hi (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12))
      (blk1 m c 0 t) (blk1 m c 1 t) (blk1 m c 2 t) (blk1 m c 3 t) (win1_4.fill (grid1.coords t) d4 (blk1 m c 4 t)) (win1_5.fill (grid1.coords t) d5 (blk1 m c 5 t)) (win1_6.fill (grid1.coords t) d6 (blk1 m c 6 t)) ((dat1 m c).before 7 t d7) (accL1 m c (t.val - 1) (Nat.lt_of_le_of_lt (Nat.sub_le _ _) t.isLt)) ((dat1 m c).before 9 t d9) (accFlops m c (t.val - 1) (Nat.lt_of_le_of_lt (Nat.sub_le _ _) t.isLt)) ((dat1 m c).before 11 t d11) (accSat m c (t.val - 1) (Nat.lt_of_le_of_lt (Nat.sub_le _ _) t.isLt)) _)
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage1_4 (cfg1.slots t 4)) fullShare (win1_4.fill (grid1.coords t) d4 (win1_4.cut (grid1.coords t) (fil1 m c 4 t)))
      rw [show win1_4.cut (grid1.coords t) (fil1 m c 4 t) = blk1 m c 4 t from win1_4.cut_fill _ _ _]; try iexact H4
    isplitl [H5]
    · iexists d5
      change _ ⊢ owns (c : Thread nD τ) (stage1_5 (cfg1.slots t 5)) fullShare (win1_5.fill (grid1.coords t) d5 (win1_5.cut (grid1.coords t) (fil1 m c 5 t)))
      rw [show win1_5.cut (grid1.coords t) (fil1 m c 5 t) = blk1 m c 5 t from win1_5.cut_fill _ _ _]; try iexact H5
    isplitl [H6]
    · iexists d6
      change _ ⊢ owns (c : Thread nD τ) (stage1_6 (cfg1.slots t 6)) fullShare (win1_6.fill (grid1.coords t) d6 (win1_6.cut (grid1.coords t) (fil1 m c 6 t)))
      rw [show win1_6.cut (grid1.coords t) (fil1 m c 6 t) = blk1 m c 6 t from win1_6.cut_fill _ _ _]; try iexact H6
    isplitl [H7]
    · iexists ((dat1 m c).after 7 t)
      change _ ⊢ owns (c : Thread nD τ) (stage1_7 (cfg1.slots t 7)) fullShare (win1_7.fill (grid1.coords t) ((dat1 m c).after 7 t) (win1_7.cut (grid1.coords t) ((dat1 m c).after 7 t)))
      rw [Window.fill_cut, show (dat1 m c).after 7 t = _ from (h).symm]; try iexact H7
    isplitl [H8]
    · change _ ⊢ owns (c : Thread nD τ) (stage1_8 (cfg1.slots t 8)) fullShare ((dat1 m c).after 8 t)
      rw [show (dat1 m c).after 8 t = _ from accL1_later m c t ht, ← outL1_congr _ h _]; try iexact H8
    isplitl [H9]
    · iexists ((dat1 m c).after 9 t)
      change _ ⊢ owns (c : Thread nD τ) (stage1_9 (cfg1.slots t 9)) fullShare (win1_9.fill (grid1.coords t) ((dat1 m c).after 9 t) (win1_9.cut (grid1.coords t) ((dat1 m c).after 9 t)))
      rw [Window.fill_cut, show (dat1 m c).after 9 t = _ from (outMean_congr _ h).symm]; try iexact H9
    isplitl [H10]
    · change _ ⊢ owns (c : Thread nD τ) (stage1_10 (cfg1.slots t 10)) fullShare ((dat1 m c).after 10 t)
      rw [show (dat1 m c).after 10 t = _ from accFlops_later m c t ht, ← outFlops_congr _ h _]; try iexact H10
    isplitl [H11]
    · iexists ((dat1 m c).after 11 t)
      change _ ⊢ owns (c : Thread nD τ) (stage1_11 (cfg1.slots t 11)) fullShare (win1_11.fill (grid1.coords t) ((dat1 m c).after 11 t) (win1_11.cut (grid1.coords t) ((dat1 m c).after 11 t)))
      rw [Window.fill_cut, show (dat1 m c).after 11 t = _ from (outCodes_congr _ h _).symm]; try iexact H11
    · change _ ⊢ owns (c : Thread nD τ) (stage1_12 (cfg1.slots t 12)) fullShare ((dat1 m c).after 12 t)
      rw [show (dat1 m c).after 12 t = _ from accSat_later m c t ht, ← outSat_congr _ h _ _]; try iexact H12

end Cert.Kernel.Hand

end
-- ==== Proof.RegionF.lean ====
/- A kernel region without operands of its own, entered from the unscoped buffers held at a valuation and left with them
   held at some valuation that agrees with the proof data on the windows kept. -/
module

public import Idealize.ShloMosaic.Lib.Pipeline.RegionArraysF

@[expose] public section

noncomputable section

namespace Cert.RegionF

open Idealize.ShloMosaic
open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe
open Idealize.ShloMosaic.Pipeline Idealize.SL.RA.PCS
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (p : P) (fg : (q : P) → Fin (pin pcs a q).W → Bool)

/-- The record of a region whose body is proved with the windows `fg p` forgotten: every unscoped buffer held at `W c`
    before it, and at `mk c A` after it, `A` the arrays' contents it leaves. -/
def regF [∀ e, Nonempty (Val e)] (kit : PLaunchFacts (nD := nD) (τ := τ) pcs p) (hK : (pcs p).pre.K = 0)
    (hun : ∀ w, (arrRef (pcs p).spec w).isScoped = false)
    (hbody : ∀ c, BodyObligationLoose (pdats p c) defs₀ 𝒱₀ ι Set.univ (fg p))
    (howed : ∀ c t, (pdats p c).owed t = 0) (hrec : ∀ c, (pdats p c).recorded 0 = Set.univ)
    (hshare : ∀ c w, (pdats p c).share w = fullShare)
    (hΦ : ∀ c t, (pdats p c).Φ t = scopedRest (pin pcs a p).spec c)
    (W : Dev nD → Valuation τ sig Val)
    (hW : ∀ c w, (pdats p c).arrAt w 0 = W c (Proc.devRef .tc (arrRef (pin pcs a p).spec w)))
    (mk : (c : Dev nD) → ((w : Fin (pin pcs a p).W) → Buf Val (((pin pcs a p).win w).arr.view.loc (c.tc : Thread nD τ))) → Valuation τ sig Val)
    (hmkA : ∀ c A, (∀ w, fg p w = false → A w = (pdats p c).arrAt w (pin pcs a p).N) →
      ∀ w, A w = mk c A (Proc.devRef .tc (arrRef (pin pcs a p).spec w)))
    (hmkO : ∀ c A, ∀ d ∈ ucRefs τ sig \ arrRefs (pcs p).spec, mk c A d = W c d) :
    RDat.RegionSeg pcs a (toRsF pcs a pdats fg) ι defs₀ 𝒱₀ L lv p where
  win := kit.to₀.win
  block_pos := kit.to₀.block_pos
  stage_whole := kit.to₀.stage_whole
  K := PEmpty
  osem k := k.elim
  ho := OwnSemFacts.none _
  hbody c := (hbody c).toRForget
  hwaits c := RDat.hwaits_of_owed_zero pcs a (toRsF pcs a pdats fg) ι L lv p howed c
  pre c := iprop(StableHlo.held (c.tc : Thread nD τ) (ucRefs τ sig) (W c) ∗ ∃ Wd, owes (c : Thread nD τ) (0 : CellTallies nD τ sig Ix) Wd)
  post c := iprop((∃ A, StableHlo.held (c.tc : Thread nD τ) (ucRefs τ sig) (mk c A)) ∗ ∃ Wd, owes (c : Thread nD τ) (0 : CellTallies nD τ sig Ix) Wd)
  X _ := BI.emp
  Y _ := BI.emp
  Z c := StableHlo.held (c.tc : Thread nD τ) (ucRefs τ sig \ arrRefs (pcs p).spec) (W c)
  hentry c := by
    show _ ⊢ |={Set.univ}=> iprop((pdats p c).arrays ((pdats p c).arrAt · 0) ∗ prefHeld (pcs p).pre c (fun _ => fullShare) (a p).1
        ∗ (pdats p c).owesAt ι 0 ∗ _ ∗ _)
    rw [prefHeld_of_none _ hK, arrays_held pcs a pdats p kit c (hshare c) ((pdats p c).arrAt · 0) (W c) (hW c),
      StableHlo.held_sub_split (c.tc : Thread nD τ) (arrRefs_sub_ucRefs (pcs p).spec hun) (W c)]
    iintro ⟨⟨⟨Ha, Hr⟩, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hr
  hin c := by
    show _ ⊢ (pdats p c).Φ 0
    rw [hΦ c 0]
    iintro ⟨-, -, Hr⟩
    iexact Hr
  hout c := by
    show (pdats p c).Φ (Fin.last (pin pcs a p).N) ⊢ _
    rw [hΦ c, ownSems0_none]
    iintro Hr
    isplitr; · iempintro
    isplitr; · iempintro
    iexact Hr
  hexit c := by
    show iprop(((pdats p c).toRForget (fg p)).arraysAt (pin pcs a p).N ∗ (pdats p c).owesAt ι (Fin.last (pin pcs a p).N) ∗ _ ∗ _) ⊢ _
    iintro ⟨Ha, HO, -, Hr⟩
    ihave Ha := ((pdats p c).arraysAt_forget (fg p) (pin pcs a p).N) $$ Ha
    icases Ha with ⟨%A, %hA, Ha⟩
    imodintro
    isplitl [Ha Hr]
    · iexists A
      rw [StableHlo.held_sub_split (c.tc : Thread nD τ) (arrRefs_sub_ucRefs (pcs p).spec hun) (mk c A),
        ← arrays_held pcs a pdats p kit c (hshare c) A (mk c A) (hmkA c A hA),
        StableHlo.held_congr (c.tc : Thread nD τ) (S := ucRefs τ sig \ arrRefs (pcs p).spec) (hmkO c A)]
      isplitl [Ha]; · iexact Ha
      iexact Hr
    unfold Dat.owesAt owesWithin
    rw [howed c (Fin.last _)]
    icases HO with ⟨%Wd, -, HO⟩; iexists Wd; iexact HO

end Cert.RegionF

end
-- ==== Proof.Kernel.RunVals.lean ====
/- The whole program's run: the two host stretches and the two kernel regions, one after the other. -/
module

public import proofs.«01_k».proof.Proof.Kernel.Obl
public import proofs.«01_k».proof.Proof.RegionF
public import proofs.«01_k».proof.Proof.Gen.Kernel.Skeleton
public import proofs.«01_k».proof.Proof.Gen.Kernel.Launch
public import proofs.«01_k».proof.Proof.Gen.Kernel.Points
public import Idealize.ShloMosaic.Lib.Pipeline.Frame
public import Idealize.ShloMosaic.Lib.VecWindow
public import Idealize.ShloMosaic.Lib.Tactic

@[expose] public section

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 400000

open Idealize.ShloMosaic.Pipeline (Seg HostSeg)
open Cert.RegionF

variable (m : (ℓ : Loc nD τ sig) → Buf (Elt F) ℓ) (ρ : Dev nD → PrngReg)

/-- The windows whose contents the proof forgets: none of the first region's, `f1` of the second's. -/
abbrev fgOf (f1 : Fin cfg1.W → Bool) : (q : Fin 2) → Fin (Pipeline.pin (pcfgs (F := F)) adm q).W → Bool
  | ⟨0, _⟩ => fun _ => false
  | ⟨1, _⟩ => f1

/-- The second region's arrays' contents after the run: a kept window's as the proof data says, a forgotten one's any. -/
def fin1 (f1 : Fin cfg1.W → Bool) (c : Dev nD) (A : (w : Fin cfg1.W) → Buf (Elt F) ((cfg1.win w).arr.view.loc (c : Thread nD τ))) (w : Fin cfg1.W) :
    Buf (Elt F) ((cfg1.win w).arr.view.loc (c : Thread nD τ)) :=
  bif f1 w then A w else (dat1 m c).arrAt w cfg1.N

/-- The unscoped buffers after the run. -/
def mk1 (f1 : Fin cfg1.W → Bool) (c : Dev nD) (A : (w : Fin cfg1.W) → Buf (Elt F) ((cfg1.win w).arr.view.loc (c : Thread nD τ))) : Valuation τ sig (Elt F) :=
  Function.update (Function.update (Function.update (Function.update (Function.update (Function.update (W3 m c) main_v10_0 (fin1 m f1 c A 7)) main_v10_1 (fin1 m f1 c A 8)) main_v10_2 (fin1 m f1 c A 9)) main_v10_3 (fin1 m f1 c A 10)) main_v10_4 (fin1 m f1 c A 11)) main_v10_5 (fin1 m f1 c A 12)

theorem mk1_of (f1 : Fin cfg1.W → Bool) (c : Dev nD) (A) (r : Ref sig .tc) (h : r ∉ ([main_v10_0, main_v10_1, main_v10_2, main_v10_3, main_v10_4, main_v10_5] : List (Ref sig .tc))) : mk1 m f1 c A r = W3 m c r := by
  simp only [List.mem_cons, List.not_mem_nil, or_false, not_or] at h
  obtain ⟨h0, h1, h2, h3, h4, h5⟩ := h
  unfold mk1
  rw [Function.update_of_ne (StableHlo.devRef_ne_of_ne h5), Function.update_of_ne (StableHlo.devRef_ne_of_ne h4), Function.update_of_ne (StableHlo.devRef_ne_of_ne h3),
    Function.update_of_ne (StableHlo.devRef_ne_of_ne h2), Function.update_of_ne (StableHlo.devRef_ne_of_ne h1), Function.update_of_ne (StableHlo.devRef_ne_of_ne h0)]
theorem mk1_0 (f1 : Fin cfg1.W → Bool) (c : Dev nD) (A) : mk1 m f1 c A main_v10_0 = fin1 m f1 c A 7 := by
  unfold mk1
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem mk1_1 (f1 : Fin cfg1.W → Bool) (c : Dev nD) (A) : mk1 m f1 c A main_v10_1 = fin1 m f1 c A 8 := by
  unfold mk1
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem mk1_2 (f1 : Fin cfg1.W → Bool) (c : Dev nD) (A) : mk1 m f1 c A main_v10_2 = fin1 m f1 c A 9 := by
  unfold mk1
  rw [Function.update_of_ne (StableHlo.devRef_ne_of_ne (by decide)), Function.update_of_ne (StableHlo.devRef_ne_of_ne (by decide)), Function.update_of_ne (StableHlo.devRef_ne_of_ne (by decide)), Function.update_self]
theorem mk1_3 (f1 : Fin cfg1.W → Bool) (c : Dev nD) (A) : mk1 m f1 c A main_v10_3 = fin1 m f1 c A 10 := by
  unfold mk1
  rw [Function.update_of_ne (StableHlo.devRef_ne_of_ne (by decide)), Function.update_of_ne (StableHlo.devRef_ne_of_ne (by decide)), Function.update_self]
theorem mk1_4 (f1 : Fin cfg1.W → Bool) (c : Dev nD) (A) : mk1 m f1 c A main_v10_4 = fin1 m f1 c A 11 := by
  unfold mk1
  rw [Function.update_of_ne (StableHlo.devRef_ne_of_ne (by decide)), Function.update_self]
theorem mk1_5 (f1 : Fin cfg1.W → Bool) (c : Dev nD) (A) : mk1 m f1 c A main_v10_5 = fin1 m f1 c A 12 := by
  unfold mk1
  rw [Function.update_self]

/-- What is left of a thread's state beside its buffers: it owes nothing. -/
abbrev rest1 (_ : Fin 3) (c : Dev nD) : sProp 𝕄 := iprop(∃ W, owes (c : Thread nD τ) (0 : CellTallies nD τ sig Unit) W)

abbrev L1 : GSem nD τ sig → Finset Unit := fun _ => ∅
abbrev lv1 : GSem nD τ sig → Unit → ℕ := fun _ _ => 0

/-- The pipeline library's algebra is the certificate's whole. -/
abbrev EP1 : Emb (UR sig nD τ) 𝕄 := emb₁

theorem arr1_eq (c : Dev nD) (w : Fin cfg1.W) : (dat1 m c).arrAt w 0 = W3 m c (Proc.devRef .tc (Pipeline.arrRef spec1 w)) := rfl
theorem arr0_eq (c : Dev nD) (w : Fin cfg0.W) : (dat0 m c).arrAt w 0 = V1 m c (Proc.devRef .tc (Pipeline.arrRef spec0 w)) := rfl

/-- After the first region every array of its windows holds what the valuation says. -/
theorem keep0 (c : Dev nD) : ∀ w : Fin cfg0.W, (dat0 m c).arrAt w cfg0.N = V2 m (outs0 m) c (Proc.devRef .tc (Pipeline.arrRef spec0 w))
  | ⟨0, _⟩ => ((dat0 m c).arrAt_in 0 rfl _).trans (V2_of m (outs0 m) c (Pipeline.arrRef spec0 0) (by decide)).symm
  | ⟨1, _⟩ => ((dat0 m c).arrAt_in 1 rfl _).trans (V2_of m (outs0 m) c (Pipeline.arrRef spec0 1) (by decide)).symm
  | ⟨2, _⟩ => ((dat0 m c).arrAt_in 2 rfl _).trans (V2_of m (outs0 m) c (Pipeline.arrRef spec0 2) (by decide)).symm
  | ⟨3, _⟩ => ((dat0 m c).arrAt_in 3 rfl _).trans (V2_of m (outs0 m) c (Pipeline.arrRef spec0 3) (by decide)).symm
  | ⟨4, _⟩ => ((dat0 m c).arrAt_in 4 rfl _).trans (V2_of m (outs0 m) c (Pipeline.arrRef spec0 4) (by decide)).symm
  | ⟨5, _⟩ => ((dat0 m c).arrAt_in 5 rfl _).trans (V2_of m (outs0 m) c (Pipeline.arrRef spec0 5) (by decide)).symm
  | ⟨6, _⟩ => ((dat0 m c).arrAt_in 6 rfl _).trans (V2_of m (outs0 m) c (Pipeline.arrRef spec0 6) (by decide)).symm
  | ⟨7, _⟩ => by
    show zArr m c = V2 m (outs0 m) c main_v6_0
    unfold V2 outs0 res0
    rw [Function.update_of_ne (StableHlo.devRef_ne_of_ne (by decide)), Function.update_self, Function.update_of_ne (StableHlo.devRef_ne_of_ne (by decide)), Function.update_self]
  | ⟨8, _⟩ => by
    show sArr m c = V2 m (outs0 m) c main_v6_1
    unfold V2 outs0 res0
    rw [Function.update_self, Function.update_self]

end Cert.Kernel.Hand

end
-- ==== Proof.Kernel.RunRegs.lean ====
/- The whole program's run: the two host stretches and the two kernel regions, one after the other. -/
module

public import proofs.«01_k».proof.Proof.Kernel.RunVals
public import proofs.«01_k».proof.Proof.RegionF
public import proofs.«01_k».proof.Proof.Gen.Kernel.Skeleton
public import proofs.«01_k».proof.Proof.Gen.Kernel.Launch
public import proofs.«01_k».proof.Proof.Gen.Kernel.Points
public import Idealize.ShloMosaic.Lib.Pipeline.Frame
public import Idealize.ShloMosaic.Lib.VecWindow
public import Idealize.ShloMosaic.Lib.Tactic

@[expose] public section

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 400000

open Idealize.ShloMosaic.Pipeline (Seg HostSeg)
open Cert.RegionF

variable (m : (ℓ : Loc nD τ sig) → Buf (Elt F) ℓ) (ρ : Dev nD → PrngReg)

/-- Every array is held whole. -/
theorem hshare0 (c : Dev nD) (w) : (pdats m 0 c).share w = fullShare := (pdats m 0 c).share_full (fun _ => rfl) w
theorem hshare1 (c : Dev nD) (w) : (pdats m 1 c).share w = fullShare := (pdats m 1 c).share_full (fun _ => rfl) w

/-- What a region carries beside its windows is its own scratch. -/
theorem phi0 (c : Dev nD) (t) : (dat0 m c).Φ t = Pipeline.scopedRest (Ix := Unit) (Name := ℕ) (U := UR sig nD τ) (Lvl := ℕ) (Val := Elt F) spec0 c := by
  unfold dat0; dsimp only
theorem pin0 (c : Dev nD) : (Pipeline.scopedRest (Pipeline.pin (pcfgs (F := F)) adm 0).spec c : sProp 𝕄) = Pipeline.scopedRest spec0 c := rfl
theorem hphi0 (c : Dev nD) (t) : (pdats m 0 c).Φ t = Pipeline.scopedRest (Pipeline.pin (pcfgs (F := F)) adm 0).spec c := (phi0 m c t).trans (pin0 c).symm
theorem owed0 (c : Dev nD) (t) : (dat0 m c).owed t = 0 := by unfold dat0; rfl
theorem rec0 (c : Dev nD) : (dat0 m c).recorded 0 = Set.univ := by unfold dat0; rfl
/-- No array is scoped. -/
theorem uns0 : ∀ w : Fin 9, (Pipeline.arrRef spec0 w).isScoped = false := by decide
theorem phi1 (c : Dev nD) (t) : (dat1 m c).Φ t = Pipeline.scopedRest (Ix := Unit) (Name := ℕ) (U := UR sig nD τ) (Lvl := ℕ) (Val := Elt F) spec1 c := by
  unfold dat1; dsimp only
theorem pin1 (c : Dev nD) : (Pipeline.scopedRest (Pipeline.pin (pcfgs (F := F)) adm 1).spec c : sProp 𝕄) = Pipeline.scopedRest spec1 c := rfl
theorem hphi1 (c : Dev nD) (t) : (pdats m 1 c).Φ t = Pipeline.scopedRest (Pipeline.pin (pcfgs (F := F)) adm 1).spec c := (phi1 m c t).trans (pin1 c).symm
theorem owed1 (c : Dev nD) (t) : (dat1 m c).owed t = 0 := by unfold dat1; rfl
theorem rec1 (c : Dev nD) : (dat1 m c).recorded 0 = Set.univ := by unfold dat1; rfl
/-- No array is scoped. -/
theorem uns1 : ∀ w : Fin 13, (Pipeline.arrRef spec1 w).isScoped = false := by decide
theorem mem_main_v6_0 : (Proc.devRef .tc main_v6_0 : DevRef τ sig) ∈ Pipeline.arrRefs spec0 := by decide
theorem mem_main_v6_1 : (Proc.devRef .tc main_v6_1 : DevRef τ sig) ∈ Pipeline.arrRefs spec0 := by decide
theorem mem_main_v10_0 : (Proc.devRef .tc main_v10_0 : DevRef τ sig) ∈ Pipeline.arrRefs spec1 := by decide
theorem mem_main_v10_1 : (Proc.devRef .tc main_v10_1 : DevRef τ sig) ∈ Pipeline.arrRefs spec1 := by decide
theorem mem_main_v10_2 : (Proc.devRef .tc main_v10_2 : DevRef τ sig) ∈ Pipeline.arrRefs spec1 := by decide
theorem mem_main_v10_3 : (Proc.devRef .tc main_v10_3 : DevRef τ sig) ∈ Pipeline.arrRefs spec1 := by decide
theorem mem_main_v10_4 : (Proc.devRef .tc main_v10_4 : DevRef τ sig) ∈ Pipeline.arrRefs spec1 := by decide
theorem mem_main_v10_5 : (Proc.devRef .tc main_v10_5 : DevRef τ sig) ∈ Pipeline.arrRefs spec1 := by decide

/-- The first region's record. -/
def reg0 (f1 : Fin cfg1.W → Bool) := regF (pcfgs (F := F)) adm (pdats m) () (defs₀ (F := F)) Variants.none L1 lv1 0 (fgOf f1) launch0.toP rfl uns0
  (fun c => body0 m c) (owed0 m) (rec0 m) (hshare0 m) (hphi0 m)
  (V1 m) (arr0_eq m) (fun c _ => V2 m (outs0 m) c)
  (fun c A hA w => (hA w rfl).trans (keep0 m c w))
  (fun c A d hd => by
    obtain ⟨hu, hn⟩ := Finset.mem_sdiff.mp hd
    unfold V2
    rw [Function.update_of_ne, Function.update_of_ne]
    · rintro rfl; exact hn mem_main_v6_0
    · rintro rfl; exact hn mem_main_v6_1)

/-- After the second region every array of its windows holds what the valuation says. -/
theorem keep1 (f1 : Fin cfg1.W → Bool) (hin : ∀ w, w.val < 7 → f1 w = false) (c : Dev nD) (A) (hA : ∀ w, f1 w = false → A w = (dat1 m c).arrAt w cfg1.N) :
    ∀ w : Fin cfg1.W, A w = mk1 m f1 c A (Proc.devRef .tc (Pipeline.arrRef spec1 w)) := by
  have h7 : ∀ w, A w = fin1 m f1 c A w := fun w => by
    unfold fin1; cases h : f1 w with | false => exact hA w h | true => rfl
  intro w
  match w with
  | ⟨0, _⟩ => exact (hA 0 (hin 0 (by decide))).trans (((dat1 m c).arrAt_in 0 rfl _).trans (mk1_of m f1 c A (Pipeline.arrRef spec1 0) (by decide)).symm)
  | ⟨1, _⟩ => exact (hA 1 (hin 1 (by decide))).trans (((dat1 m c).arrAt_in 1 rfl _).trans (mk1_of m f1 c A (Pipeline.arrRef spec1 1) (by decide)).symm)
  | ⟨2, _⟩ => exact (hA 2 (hin 2 (by decide))).trans (((dat1 m c).arrAt_in 2 rfl _).trans (mk1_of m f1 c A (Pipeline.arrRef spec1 2) (by decide)).symm)
  | ⟨3, _⟩ => exact (hA 3 (hin 3 (by decide))).trans (((dat1 m c).arrAt_in 3 rfl _).trans (mk1_of m f1 c A (Pipeline.arrRef spec1 3) (by decide)).symm)
  | ⟨4, _⟩ => exact (hA 4 (hin 4 (by decide))).trans (((dat1 m c).arrAt_in 4 rfl _).trans (mk1_of m f1 c A (Pipeline.arrRef spec1 4) (by decide)).symm)
  | ⟨5, _⟩ => exact (hA 5 (hin 5 (by decide))).trans (((dat1 m c).arrAt_in 5 rfl _).trans (mk1_of m f1 c A (Pipeline.arrRef spec1 5) (by decide)).symm)
  | ⟨6, _⟩ => exact (hA 6 (hin 6 (by decide))).trans (((dat1 m c).arrAt_in 6 rfl _).trans (mk1_of m f1 c A (Pipeline.arrRef spec1 6) (by decide)).symm)
  | ⟨7, _⟩ => exact (h7 7).trans (mk1_0 m f1 c A).symm
  | ⟨8, _⟩ => exact (h7 8).trans (mk1_1 m f1 c A).symm
  | ⟨9, _⟩ => exact (h7 9).trans (mk1_2 m f1 c A).symm
  | ⟨10, _⟩ => exact (h7 10).trans (mk1_3 m f1 c A).symm
  | ⟨11, _⟩ => exact (h7 11).trans (mk1_4 m f1 c A).symm
  | ⟨12, _⟩ => exact (h7 12).trans (mk1_5 m f1 c A).symm

/-- The second region's record. -/
def reg1 (f1 : Fin cfg1.W → Bool) (hin : ∀ w, w.val < 7 → f1 w = false)
    (hobl : ∀ c, BodyObligationLoose (dat1 m c) (defs₀ (F := F)) Variants.none () Set.univ f1) :=
  regF (pcfgs (F := F)) adm (pdats m) () (defs₀ (F := F)) Variants.none L1 lv1 1 (fgOf f1) launch1.toP rfl uns1
  (fun c => hobl c) (owed1 m) (rec1 m) (hshare1 m) (hphi1 m)
  (W3 m) (arr1_eq m) (mk1 m f1)
  (fun c A hA w => keep1 m f1 hin c A hA w)
  (fun c A d hd => by
    obtain ⟨hu, hn⟩ := Finset.mem_sdiff.mp hd
    unfold mk1
    rw [Function.update_of_ne, Function.update_of_ne, Function.update_of_ne, Function.update_of_ne, Function.update_of_ne, Function.update_of_ne]
    · rintro rfl; exact hn mem_main_v10_0
    · rintro rfl; exact hn mem_main_v10_1
    · rintro rfl; exact hn mem_main_v10_2
    · rintro rfl; exact hn mem_main_v10_3
    · rintro rfl; exact hn mem_main_v10_4
    · rintro rfl; exact hn mem_main_v10_5)

end Cert.Kernel.Hand

end
-- ==== Proof.Kernel.Run.lean ====
/- The whole program's run: the two host stretches and the two kernel regions, one after the other. -/
module

public import proofs.«01_k».proof.Proof.Kernel.RunRegs
public import proofs.«01_k».proof.Proof.RegionF
public import proofs.«01_k».proof.Proof.Gen.Kernel.Skeleton
public import proofs.«01_k».proof.Proof.Gen.Kernel.Launch
public import proofs.«01_k».proof.Proof.Gen.Kernel.Points
public import Idealize.ShloMosaic.Lib.Pipeline.Frame
public import Idealize.ShloMosaic.Lib.VecWindow
public import Idealize.ShloMosaic.Lib.Tactic

@[expose] public section

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 400000

open Idealize.ShloMosaic.Pipeline (Seg HostSeg)
open Cert.RegionF

variable (m : (ℓ : Loc nD τ sig) → Buf (Elt F) ℓ) (ρ : Dev nD → PrngReg)

/-- The program's items. -/
abbrev items (f1 : Fin cfg1.W → Bool) (hin : ∀ w, w.val < 7 → f1 w = false)
    (hobl : ∀ c, BodyObligationLoose (dat1 m c) (defs₀ (F := F)) Variants.none () Set.univ f1) (_ : Dev nD) :
    List (Pipeline.RDat.Seg (pcfgs (F := F)) adm (Pipeline.toRsF (pcfgs (F := F)) adm (pdats m) (fgOf f1)) () (defs₀ (F := F)) Variants.none L1 lv1) :=
  [.host (seg0 m Variants.none L1 lv1 rest1), .region (reg0 m f1), .host (seg2 m (outs0 m) Variants.none L1 lv1 rest1), .region (reg1 m f1 hin hobl)]

set_option backward.isDefEq.respectTransparency.types false in
/-- THE RUN. Every weakly fair execution terminates, faults nowhere, has every counter at zero at its end, and leaves every
    unscoped buffer as `mk1` says. -/
theorem run_whole (f1 : Fin cfg1.W → Bool) (hin : ∀ w, w.val < 7 → f1 w = false)
    (hobl : ∀ c, BodyObligationLoose (dat1 m c) (defs₀ (F := F)) Variants.none () Set.univ f1) :
    θ_run defs (onTc (τ := τ) (main (F := F))) ⟨m, fun _ => 0, ρ⟩ (fun r => (∀ c : Dev nD, ∃ A, ∀ b : Ref sig .tc, b.isScoped = false →
      r.2.mem ((c.tc : Thread nD τ).loc b) = mk1 m f1 c A b) ∧ r.2.sem = fun _ => 0) := by
  refine Pipeline.RDat.θ_run_regions_kit_dev_sems (pcfgs (F := F)) adm (Pipeline.toRsF (pcfgs (F := F)) adm (pdats m) (fgOf f1)) () cellOf_inj EP1 (defs₀ (F := F)) Variants.none L1 lv1 m ρ main
    (items m f1 hin hobl)
    (fun c Q => by
      rewrite [main_chain c, Pipeline.RDat.Seg.run_eq_chain,
        show (items m f1 hin hobl c).map Pipeline.RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Pipeline.RDat.Seg.pipes_host, Pipeline.RDat.Seg.pipes_region, Pipeline.RDat.Seg.pipes_nil]; decide) (O₀ := 0) (hL := fun _ _ => rfl)
    (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ rest1 0 c))
    (Tₙ := fun c => iprop(∃ A, StableHlo.held (c : Thread nD τ) (Pipeline.ucRefs τ sig) (mk1 m f1 c A)))
    (hch := fun c => ⟨.rfl, .rfl, ?_, .rfl, .rfl⟩)
    (hinit := ?_) (QY := fun c s => ∃ A, ∀ b : Ref sig .tc, b.isScoped = false → s.mem ((c.tc : Thread nD τ).loc b) = mk1 m f1 c A b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (EP1 (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · show iprop((∃ A, StableHlo.held (c.tc : Thread nD τ) (Pipeline.ucRefs τ sig) (V2 m (outs0 m) c)) ∗ rest1 1 c) ⊢ iprop(StableHlo.held (c.tc : Thread nD τ) (Pipeline.ucRefs τ sig) (V2 m (outs0 m) c) ∗ rest1 1 c)
    iintro ⟨⟨%A, Hh⟩, HO⟩
    isplitl [Hh]; · iexact Hh
    iexact HO
  · refine Pipeline.initEach L1 lv1 fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · iintro ⟨⟨%A, Hh⟩, HSI⟩
    unfold StableHlo.held
    ihave Hr := (pointsTo_read_all (Pipeline.ucRefs τ sig) (fun b => ((c : Thread nD τ).1, b)) (mk1 m f1 c A) s') $$ [Hh HSI]
    · isplitl [Hh] <;> iassumption
    icases Hr with ⟨%h, HSI⟩
    imodintro
    isplitr
    · ipureintro
      exact ⟨A, fun b hb => h (Proc.devRef .tc b) (Finset.mem_filter.mpr ⟨StableHlo.devRef_mem_tcRefs b, fun hs => Bool.false_ne_true (hb.symm.trans hs)⟩)⟩
    · iexact HSI

/-- An argument reaches the end as launched. -/
theorem mk1_arg (f1 : Fin cfg1.W → Bool) (c : Dev nD) (A) (r : Ref sig .tc) (h : r ∉ ([main_v10_0, main_v10_1, main_v10_2, main_v10_3, main_v10_4, main_v10_5] : List (Ref sig .tc)))
    (h3 : r ∉ hostOps1_W) (h2 : r ∉ ([main_v6_0, main_v6_1] : List (Ref sig .tc))) (h1 : r ∉ hostOps0_W) : mk1 m f1 c A r = m ((c : Thread nD τ).loc r) :=
  (mk1_of m f1 c A r h).trans <| (V3_of m (outs0 m) c r h3).trans <| (V2_of m (outs0 m) c r h2).trans <| (V1_of m c r h1).trans rfl

/-- What the run leaves in the arguments. -/
abbrev ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

theorem argsKept (f1 : Fin cfg1.W → Bool) (c : Dev nD) (A) (s : MemSt nD τ sig (Elt F))
    (h : ∀ b : Ref sig .tc, b.isScoped = false → s.mem ((c.tc : Thread nD τ).loc b) = mk1 m f1 c A b) : ArgsKept m s c :=
  ⟨(h main_arg0 (by decide)).trans (mk1_arg m f1 c A main_arg0 (by decide) (by decide) (by decide) (by decide)),
    (h main_arg1 (by decide)).trans (mk1_arg m f1 c A main_arg1 (by decide) (by decide) (by decide) (by decide)),
    (h main_arg2 (by decide)).trans (mk1_arg m f1 c A main_arg2 (by decide) (by decide) (by decide) (by decide)),
    (h main_arg3 (by decide)).trans (mk1_arg m f1 c A main_arg3 (by decide) (by decide) (by decide) (by decide)),
    (h main_arg4 (by decide)).trans (mk1_arg m f1 c A main_arg4 (by decide) (by decide) (by decide) (by decide)),
    (h main_arg5 (by decide)).trans (mk1_arg m f1 c A main_arg5 (by decide) (by decide) (by decide) (by decide)),
    (h main_arg6 (by decide)).trans (mk1_arg m f1 c A main_arg6 (by decide) (by decide) (by decide) (by decide)),
    (h main_arg7 (by decide)).trans (mk1_arg m f1 c A main_arg7 (by decide) (by decide) (by decide) (by decide)),
    (h main_arg8 (by decide)).trans (mk1_arg m f1 c A main_arg8 (by decide) (by decide) (by decide) (by decide)),
    (h main_arg9 (by decide)).trans (mk1_arg m f1 c A main_arg9 (by decide) (by decide) (by decide) (by decide)),
    (h main_arg10 (by decide)).trans (mk1_arg m f1 c A main_arg10 (by decide) (by decide) (by decide) (by decide)),
    (h main_arg11 (by decide)).trans (mk1_arg m f1 c A main_arg11 (by decide) (by decide) (by decide) (by decide))⟩

/-- THE FRAME: the arguments end as launched, whatever the pooling region's results hold. -/
theorem frame : θ_run defs (onTc (τ := τ) (main (F := F))) ⟨m, fun _ => 0, ρ⟩ (fun r => (∀ c : Dev nD, ArgsKept m r.2 c) ∧ r.2.sem = fun _ => 0) :=
  (run_whole m ρ results1 (by decide) (body1_forget m)).mono fun r h => ⟨fun c => let ⟨A, hA⟩ := h.1 c; argsKept m _ c A r hA, h.2⟩

/-- The results, where the pooled block's columns inside the array do not depend on what fills the fetched blocks out. -/
theorem run_exact (hobl : ∀ c, BodyObligationLoose (dat1 m c) (defs₀ (F := F)) Variants.none () Set.univ none1) :
    θ_run defs (onTc (τ := τ) (main (F := F))) ⟨m, fun _ => 0, ρ⟩ (fun r => ∀ c : Dev nD,
      r.2.mem ((c.tc : Thread nD τ).loc main_v6_0) = zArr m c
      ∧ r.2.mem ((c.tc : Thread nD τ).loc main_v6_1) = sArr m c
      ∧ r.2.mem ((c.tc : Thread nD τ).loc main_v10_0) = (dat1 m c).arrAt 7 cfg1.N
      ∧ r.2.mem ((c.tc : Thread nD τ).loc main_v10_1) = (dat1 m c).arrAt 8 cfg1.N
      ∧ r.2.mem ((c.tc : Thread nD τ).loc main_v10_2) = (dat1 m c).arrAt 9 cfg1.N
      ∧ r.2.mem ((c.tc : Thread nD τ).loc main_v10_3) = (dat1 m c).arrAt 10 cfg1.N
      ∧ r.2.mem ((c.tc : Thread nD τ).loc main_v10_4) = (dat1 m c).arrAt 11 cfg1.N
      ∧ r.2.mem ((c.tc : Thread nD τ).loc main_v10_5) = (dat1 m c).arrAt 12 cfg1.N
      ∧ ArgsKept m r.2 c) := by
  refine (run_whole m ρ none1 (fun _ _ => rfl) hobl).mono fun r h c => ?_
  obtain ⟨A, hA⟩ := h.1 c
  refine ⟨?_, ?_, (hA main_v10_0 (by decide)).trans (mk1_0 m none1 c A), (hA main_v10_1 (by decide)).trans (mk1_1 m none1 c A), (hA main_v10_2 (by decide)).trans (mk1_2 m none1 c A), (hA main_v10_3 (by decide)).trans (mk1_3 m none1 c A), (hA main_v10_4 (by decide)).trans (mk1_4 m none1 c A), (hA main_v10_5 (by decide)).trans (mk1_5 m none1 c A), argsKept m none1 c A r hA⟩
  · rw [hA main_v6_0 (by decide), mk1_of m none1 c A main_v6_0 (by decide), W3, V3_of m (outs0 m) c main_v6_0 (by decide)]
    exact (keep0 m c 7).symm
  · rw [hA main_v6_1 (by decide), mk1_of m none1 c A main_v6_1 (by decide), W3, V3_of m (outs0 m) c main_v6_1 (by decide)]
    exact (keep0 m c 8).symm

end Cert.Kernel.Hand

end
-- ==== Proof.KernelIdeal.Body0.lean ====
/- The run of the transform kernel's body over whole staging buffers. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One grid step of the transform kernel: from whole staging buffers the body stores the fp8 codes and the row
    scales it computes from the seven inputs, and leaves the inputs as they were. -/
theorem transform_run (c : Dev nD) (E : Set ℕ) (i : grid0.Coords)
    (arg1 : Memref sig .tc .vmem S256x768 .fp8e4m3) (harg1 : arg1.IsWhole) (arg2 : Memref sig .tc .vmem S256x1 .f32) (harg2 : arg2.IsWhole) (arg3 : Memref sig .tc .vmem S768x768 .fp8e4m3) (harg3 : arg3.IsWhole) (arg4 : Memref sig .tc .vmem S1x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S256x768 .fp8e4m3) (harg8 : arg8.IsWhole) (arg9 : Memref sig .tc .vmem S256x1 .f32) (harg9 : arg9.IsWhole)
    (x1 : Vec F S256x768 .fp8e4m3) (x2 : Vec F S256x1 .f32) (x3 : Vec F S768x768 .fp8e4m3) (x4 x5 x6 x7 : Vec F S1x768 .f32)
    (x8 : Vec F S256x768 .fp8e4m3) (x9 : Vec F S256x1 .f32) (K : PUnit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay3 (k0_pay4 x1 x3 x2 x4 x5) x6 x7) ∗ owns (c : Thread nD τ) arg9 fullShare (k0_pay2 (k0_pay4 x1 x3 x2 x4 x5) x6 x7)) -∗ K ⟨⟩))
      ⊢ wp frame (wpE (defs₀ (F := F)) Variants.none c none) E
          (cc0_transform i arg1 harg1 arg2 harg2 arg3 harg3 arg4 harg4 arg5 harg5 arg6 harg6 arg7 harg7 arg8 harg8 arg9 harg9) K := by
  simp only [cc0_transform_eq_skeleton]; unfold cc0_transform_skel
  simp only [k0_part1_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
  have hr1 : View.readAt (Elt F) arg1.view (Rect.unit (s := S256x768) ![0, 0] ![256, 768] inb_S256x768_S256x768_0_0).toLoadRect f1 = x1 := (View.readAt_full _ _ _).trans hf1
  have hr2 : View.readAt (Elt F) arg2.view (Rect.unit (s := S256x1) ![0, 0] ![256, 1] inb_S256x1_S256x1_0_0).toLoadRect f2 = x2 := (View.readAt_full _ _ _).trans hf2
  have hr3 : View.readAt (Elt F) arg3.view (Rect.unit (s := S768x768) ![0, 0] ![768, 768] inb_S768x768_S768x768_0_0).toLoadRect f3 = x3 := (View.readAt_full _ _ _).trans hf3
  have hr4 : View.readAt (Elt F) arg4.view (Rect.unit (s := S1x768) ![0, 0] ![1, 768] inb_S1x768_S1x768_0_0).toLoadRect f4 = x4 := (View.readAt_full _ _ _).trans hf4
  have hr5 : View.readAt (Elt F) arg5.view (Rect.unit (s := S1x768) ![0, 0] ![1, 768] inb_S1x768_S1x768_0_0).toLoadRect f5 = x5 := (View.readAt_full _ _ _).trans hf5
  have hr6 : View.readAt (Elt F) arg6.view (Rect.unit (s := S1x768) ![0, 0] ![1, 768] inb_S1x768_S1x768_0_0).toLoadRect f6 = x6 := (View.readAt_full _ _ _).trans hf6
  have hr7 : View.readAt (Elt F) arg7.view (Rect.unit (s := S1x768) ![0, 0] ![1, 768] inb_S1x768_S1x768_0_0).toLoadRect f7 = x7 := (View.readAt_full _ _ _).trans hf7
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; (· iexact H8); ipureintro
    refine (View.read_writes_full _ _ _ _ _).trans ?_
    sl_unfold_run_names
    rfl
  · iexists _; isplitr; swap; (· iexact H9); ipureintro
    refine (View.read_writes_full _ _ _ _ _).trans ?_
    sl_unfold_run_names
    rfl

end Cert.KernelIdeal.Hand

end
-- ==== Proof.KernelIdeal.Body1.lean ====
/- The run of the pooling kernel's body over whole staging buffers, at the first grid point and at the others. -/
module

public import proofs.«01_k».proof.Proof.KernelIdeal.Body0
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.VecWindow
public import Idealize.ShloMosaic.Lib.Pipeline.FrameBody
public import Idealize.ShloMosaic.Lib.Tactic

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The word `k` of the document lengths, as the body's scalar load reads it. -/
def lenAt (x1 : Vec F S3 .i32) : Fin 3 → Elt F .i32
  | 0 => x1 ((Rect.unit (s := S3) ![0] S1.size inb_S3_S1_0).idx (Shape.Idx.first (numel1_S1.symm ▸ Nat.one_pos)))
  | 1 => x1 ((Rect.unit (s := S3) ![1] S1.size inb_S3_S1_1).idx (Shape.Idx.first (numel1_S1.symm ▸ Nat.one_pos)))
  | 2 => x1 ((Rect.unit (s := S3) ![2] S1.size inb_S3_S1_2).idx (Shape.Idx.first (numel1_S1.symm ▸ Nat.one_pos)))

/-- The requantising scale, as the body's scalar load reads it. -/
def impAt (x2 : Vec F S1x1 .f32) : Elt F .f32 :=
  x2 ((Rect.unit (s := S1x1) ![0, 0] S1x1.size inb_S1x1_S1x1_0_0).idx (Shape.Idx.first (numel1_S1x1.symm ▸ Nat.one_pos)))

/-- The unmasked block of pooled values, of the three documents, from the kernel's blocks. -/
def poolPre (x1 : Vec F S3 .i32) (x3 : Vec F S1536x768 .fp8e4m3) (x4 : Vec F S1536x1 .f32) (x5 : Vec F S1024x768 .fp8e4m3) (x6 : Vec F S1x1024 .f32) (x7 : Vec F S1x1024 .f32) : FVec F S3x1024 .f32 :=
  k1_pay5 (k1_pay3 (View.ld x3 (Rect.unit (s := S1536x768) ![0, 0] S512x768.size inb_S1536x768_S512x768_0_0)) x5
      (View.ld x4 (Rect.unit (s := S1536x1) ![0, 0] S512x1.size inb_S1536x1_S512x1_0_0)) x6 x7 (lenAt x1 0))
    (k1_pay4 (View.ld x3 (Rect.unit (s := S1536x768) ![512, 0] S512x768.size inb_S1536x768_S512x768_512_0)) x5
      (View.ld x4 (Rect.unit (s := S1536x1) ![512, 0] S512x1.size inb_S1536x1_S512x1_512_0)) x6)
    x7 (lenAt x1 1)
    (View.ld x3 (Rect.unit (s := S1536x768) ![1024, 0] S512x768.size inb_S1536x768_S512x768_1024_0)) x5
    (View.ld x4 (Rect.unit (s := S1536x1) ![1024, 0] S512x1.size inb_S1536x1_S512x1_1024_0)) x6 x7 (lenAt x1 2)

/-- The grid point as the body's word. -/
abbrev gw (i : grid1.Coords) : BitVec 32 := BitVec.ofNat 32 (i 0).val

/-- The body's test for the first grid point. -/
abbrev isFirst (i : grid1.Coords) : Prop :=
  Scalar.cmpi .ne (Scalar.extui (Scalar.cmpi .eq (gw i) 0#32)) 0#32 = 1#1

/-- What one grid step leaves in its six results, from the pooled block `p` and the scale `q`. -/
def outRep (i : grid1.Coords) (p : FVec F S3x1024 .f32) : FVec F S3x1024 .f32 := k1_pay7 (gw i) p
def outCodes (i : grid1.Coords) (p : FVec F S3x1024 .f32) (q : Elt F .f32) : IVec S3x1024 8 := k1_pay8 (gw i) p q
def outMean (i : grid1.Coords) (p : FVec F S3x1024 .f32) : FVec F S1x1024 .f32 := k1_pay9 (gw i) p
def outL1 (i : grid1.Coords) (p : FVec F S3x1024 .f32) (a : FVec F S3x1 .f32) : FVec F S3x1 .f32 := k1_pay13 (gw i) p a
def outSat (i : grid1.Coords) (p : FVec F S3x1024 .f32) (q : Elt F .f32) (a : FVec F S3x1 .f32) : FVec F S3x1 .f32 :=
  k1_pay1 (k1_pay6 (gw i)) (k1_pay7 (gw i) p) q a
def outFlops (i : grid1.Coords) (p : FVec F S3x1024 .f32) (a : FVec F S1x1 .f32) : FVec F S1x1 .f32 := k1_pay2 (k1_pay9 (gw i) p) a

/-- One grid step of the pooling kernel, the first: the three accumulators are set to zero and then added to. -/
theorem pool_run_first (c : Dev nD) (E : Set ℕ) (i : grid1.Coords) (hi : isFirst i)
    (arg1 : Memref sig .tc .smem S3 .i32) (harg1 : arg1.IsWhole) (arg2 : Memref sig .tc .smem S1x1 .f32) (harg2 : arg2.IsWhole) (arg3 : Memref sig .tc .vmem S1536x768 .fp8e4m3) (harg3 : arg3.IsWhole) (arg4 : Memref sig .tc .vmem S1536x1 .f32) (harg4 : arg4.IsWhole) (arg5 : Memref sig .tc .vmem S1024x768 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S3x1024 .f32) (harg8 : arg8.IsWhole) (arg9 : Memref sig .tc .vmem S3x1 .f32) (harg9 : arg9.IsWhole) (arg10 : Memref sig .tc .vmem S1x1024 .f32) (harg10 : arg10.IsWhole) (arg11 : Memref sig .tc .vmem S1x1 .f32) (harg11 : arg11.IsWhole) (arg12 : Memref sig .tc .vmem S3x1024 .i8) (harg12 : arg12.IsWhole) (arg13 : Memref sig .tc .vmem S3x1 .f32) (harg13 : arg13.IsWhole)
    (x1 : Vec F S3 .i32) (x2 : Vec F S1x1 .f32) (x3 : Vec F S1536x768 .fp8e4m3) (x4 : Vec F S1536x1 .f32) (x5 : Vec F S1024x768 .fp8e4m3) (x6 : Vec F S1x1024 .f32) (x7 : Vec F S1x1024 .f32) (x8 : Vec F S3x1024 .f32) (x9 : Vec F S3x1 .f32) (x10 : Vec F S1x1024 .f32) (x11 : Vec F S1x1 .f32) (x12 : Vec F S3x1024 .i8) (x13 : Vec F S3x1 .f32) (K : PUnit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outRep i (poolPre x1 x3 x4 x5 x6 x7)) ∗ owns (c : Thread nD τ) arg9 fullShare (outL1 i (poolPre x1 x3 x4 x5 x6 x7) (k1_pay10 (F := F))) ∗ owns (c : Thread nD τ) arg10 fullShare (outMean i (poolPre x1 x3 x4 x5 x6 x7)) ∗ owns (c : Thread nD τ) arg11 fullShare (outFlops i (poolPre x1 x3 x4 x5 x6 x7) (k1_pay12 (F := F))) ∗ owns (c : Thread nD τ) arg12 fullShare (outCodes i (poolPre x1 x3 x4 x5 x6 x7) (impAt x2)) ∗ owns (c : Thread nD τ) arg13 fullShare (outSat i (poolPre x1 x3 x4 x5 x6 x7) (impAt x2) (k1_pay11 (F := F)))) -∗ K ⟨⟩))
      ⊢ wp frame (wpE (defs₀ (F := F)) Variants.none c none) E
          (cc1_pool i arg1 harg1 arg2 harg2 arg3 harg3 arg4 harg4 arg5 harg5 arg6 harg6 arg7 harg7 arg8 harg8 arg9 harg9 arg10 harg10 arg11 harg11 arg12 harg12 arg13 harg13) K := by
  simp only [cc1_pool_eq_skeleton]; unfold cc1_pool_skel
  simp only [k1_part1_eq_skeleton, k1_part2_eq_skeleton, k1_part3_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  have hr5 : View.readAt (Elt F) arg5.view (Rect.unit (s := S1024x768) ![0, 0] ![1024, 768] inb_S1024x768_S1024x768_0_0).toLoadRect f5 = x5 := (View.readAt_full _ _ _).trans hf5
  have hr6 : View.readAt (Elt F) arg6.view (Rect.unit (s := S1x1024) ![0, 0] ![1, 1024] inb_S1x1024_S1x1024_0_0).toLoadRect f6 = x6 := (View.readAt_full _ _ _).trans hf6
  have hr7 : View.readAt (Elt F) arg7.view (Rect.unit (s := S1x1024) ![0, 0] ![1, 1024] inb_S1x1024_S1x1024_0_0).toLoadRect f7 = x7 := (View.readAt_full _ _ _).trans hf7
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; (· iexact H8); ipureintro
    subst hf1 hf2 hf3 hf4
    refine (View.read_writes_full _ _ _ _ _).trans ?_
    sl_unfold_run_names
    rfl
  isplitl [H9]
  · iexists _; isplitr; swap; (· iexact H9); ipureintro
    subst hf1 hf2 hf3 hf4
    refine (View.read_writes_full _ _ _ _ _).trans ?_
    sl_unfold_run_names
    rw [View.readCov_full]
    rfl
  isplitl [H10]
  · iexists _; isplitr; swap; (· iexact H10); ipureintro
    subst hf1 hf2 hf3 hf4
    refine (View.read_writes_full _ _ _ _ _).trans ?_
    sl_unfold_run_names
    rfl
  isplitl [H11]
  · iexists _; isplitr; swap; (· iexact H11); ipureintro
    subst hf1 hf2 hf3 hf4
    refine (View.read_writes_full _ _ _ _ _).trans ?_
    sl_unfold_run_names
    rw [View.readCov_full]
    rfl
  isplitl [H12]
  · iexists _; isplitr; swap; (· iexact H12); ipureintro
    subst hf1 hf2 hf3 hf4
    refine (View.read_writes_full _ _ _ _ _).trans ?_
    sl_unfold_run_names
    rfl
  · iexists _; isplitr; swap; (· iexact H13); ipureintro
    subst hf1 hf2 hf3 hf4
    refine (View.read_writes_full _ _ _ _ _).trans ?_
    sl_unfold_run_names
    rw [View.readCov_full]
    rfl

/-- One grid step of the pooling kernel, not the first: the three accumulators are added to. -/
theorem pool_run_later (c : Dev nD) (E : Set ℕ) (i : grid1.Coords) (hi : ¬ isFirst i)
    (arg1 : Memref sig .tc .smem S3 .i32) (harg1 : arg1.IsWhole) (arg2 : Memref sig .tc .smem S1x1 .f32) (harg2 : arg2.IsWhole) (arg3 : Memref sig .tc .vmem S1536x768 .fp8e4m3) (harg3 : arg3.IsWhole) (arg4 : Memref sig .tc .vmem S1536x1 .f32) (harg4 : arg4.IsWhole) (arg5 : Memref sig .tc .vmem S1024x768 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S3x1024 .f32) (harg8 : arg8.IsWhole) (arg9 : Memref sig .tc .vmem S3x1 .f32) (harg9 : arg9.IsWhole) (arg10 : Memref sig .tc .vmem S1x1024 .f32) (harg10 : arg10.IsWhole) (arg11 : Memref sig .tc .vmem S1x1 .f32) (harg11 : arg11.IsWhole) (arg12 : Memref sig .tc .vmem S3x1024 .i8) (harg12 : arg12.IsWhole) (arg13 : Memref sig .tc .vmem S3x1 .f32) (harg13 : arg13.IsWhole)
    (x1 : Vec F S3 .i32) (x2 : Vec F S1x1 .f32) (x3 : Vec F S1536x768 .fp8e4m3) (x4 : Vec F S1536x1 .f32) (x5 : Vec F S1024x768 .fp8e4m3) (x6 : Vec F S1x1024 .f32) (x7 : Vec F S1x1024 .f32) (x8 : Vec F S3x1024 .f32) (x9 : Vec F S3x1 .f32) (x10 : Vec F S1x1024 .f32) (x11 : Vec F S1x1 .f32) (x12 : Vec F S3x1024 .i8) (x13 : Vec F S3x1 .f32) (K : PUnit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outRep i (poolPre x1 x3 x4 x5 x6 x7)) ∗ owns (c : Thread nD τ) arg9 fullShare (outL1 i (poolPre x1 x3 x4 x5 x6 x7) x9) ∗ owns (c : Thread nD τ) arg10 fullShare (outMean i (poolPre x1 x3 x4 x5 x6 x7)) ∗ owns (c : Thread nD τ) arg11 fullShare (outFlops i (poolPre x1 x3 x4 x5 x6 x7) x11) ∗ owns (c : Thread nD τ) arg12 fullShare (outCodes i (poolPre x1 x3 x4 x5 x6 x7) (impAt x2)) ∗ owns (c : Thread nD τ) arg13 fullShare (outSat i (poolPre x1 x3 x4 x5 x6 x7) (impAt x2) x13)) -∗ K ⟨⟩))
      ⊢ wp frame (wpE (defs₀ (F := F)) Variants.none c none) E
          (cc1_pool i arg1 harg1 arg2 harg2 arg3 harg3 arg4 harg4 arg5 harg5 arg6 harg6 arg7 harg7 arg8 harg8 arg9 harg9 arg10 harg10 arg11 harg11 arg12 harg12 arg13 harg13) K := by
  simp only [cc1_pool_eq_skeleton]; unfold cc1_pool_skel
  simp only [k1_part1_eq_skeleton, k1_part2_eq_skeleton, k1_part3_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  have hr5 : View.readAt (Elt F) arg5.view (Rect.unit (s := S1024x768) ![0, 0] ![1024, 768] inb_S1024x768_S1024x768_0_0).toLoadRect f5 = x5 := (View.readAt_full _ _ _).trans hf5
  have hr6 : View.readAt (Elt F) arg6.view (Rect.unit (s := S1x1024) ![0, 0] ![1, 1024] inb_S1x1024_S1x1024_0_0).toLoadRect f6 = x6 := (View.readAt_full _ _ _).trans hf6
  have hr7 : View.readAt (Elt F) arg7.view (Rect.unit (s := S1x1024) ![0, 0] ![1, 1024] inb_S1x1024_S1x1024_0_0).toLoadRect f7 = x7 := (View.readAt_full _ _ _).trans hf7
  have hr9 : View.readAt (Elt F) arg9.view (Rect.unit (s := S3x1) ![0, 0] ![3, 1] inb_S3x1_S3x1_0_0).toLoadRect f9 = x9 := (View.readAt_full _ _ _).trans hf9
  have hr13 : View.readAt (Elt F) arg13.view (Rect.unit (s := S3x1) ![0, 0] ![3, 1] inb_S3x1_S3x1_0_0).toLoadRect f13 = x13 := (View.readAt_full _ _ _).trans hf13
  have hr11 : View.readAt (Elt F) arg11.view (Rect.unit (s := S1x1) ![0, 0] ![1, 1] inb_S1x1_S1x1_0_0).toLoadRect f11 = x11 := (View.readAt_full _ _ _).trans hf11
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; (· iexact H8); ipureintro
    subst hf1 hf2 hf3 hf4
    refine (View.read_writes_full _ _ _ _ _).trans ?_
    sl_unfold_run_names
    rfl
  isplitl [H9]
  · iexists _; isplitr; swap; (· iexact H9); ipureintro
    subst hf1 hf2 hf3 hf4
    refine (View.read_writes_full _ _ _ _ _).trans ?_
    sl_unfold_run_names
    rfl
  isplitl [H10]
  · iexists _; isplitr; swap; (· iexact H10); ipureintro
    subst hf1 hf2 hf3 hf4
    refine (View.read_writes_full _ _ _ _ _).trans ?_
    sl_unfold_run_names
    rfl
  isplitl [H11]
  · iexists _; isplitr; swap; (· iexact H11); ipureintro
    subst hf1 hf2 hf3 hf4
    refine (View.read_writes_full _ _ _ _ _).trans ?_
    sl_unfold_run_names
    rfl
  isplitl [H12]
  · iexists _; isplitr; swap; (· iexact H12); ipureintro
    subst hf1 hf2 hf3 hf4
    refine (View.read_writes_full _ _ _ _ _).trans ?_
    sl_unfold_run_names
    rfl
  · iexists _; isplitr; swap; (· iexact H13); ipureintro
    subst hf1 hf2 hf3 hf4
    refine (View.read_writes_full _ _ _ _ _).trans ?_
    sl_unfold_run_names
    rfl

end Cert.KernelIdeal.Hand

end
-- ==== Proof.KernelIdeal.Data.lean ====
/- The proof data of the two kernel regions: what the arrays hold at entry and what each grid step leaves in every staging buffer. -/
module

public import proofs.«01_k».proof.Proof.KernelIdeal.Body0
public import proofs.«01_k».proof.Proof.KernelIdeal.Body1
public import proofs.«01_k».proof.Proof.Gen.KernelIdeal.Regions
public import Idealize.ShloMosaic.Lib.Pipeline.FrameBody
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The block of window `w` of the first region at point `t`, read off its array at the region's entry. -/
abbrev blk0 (c : Dev nD) (w : Fin cfg0.W) (t : Fin cfg0.N) : ((cfg0.win w).xblock (grid0.coords t)).Idx → Elt F (cfg0.win w).elt :=
  ((cfg0.win w).blk t).view.read (Elt F) (V1 m c (Pipeline.arrRef spec0 w))

/-- The normalised rows of point `t`. -/
def nrm0 (c : Dev nD) (t : Fin cfg0.N) : FVec F S256x768 .f32 :=
  k0_pay4 (blk0 m c 0 t) (blk0 m c 2 t) (blk0 m c 1 t) (blk0 m c 3 t) (blk0 m c 4 t)
/-- The requantised rows of point `t`: codes, -/
def z0 (c : Dev nD) (t : Fin cfg0.N) : FVec F S256x768 .fp8e4m3 := k0_pay3 (nrm0 m c t) (blk0 m c 5 t) (blk0 m c 6 t)
/-- and scales. -/
def s0 (c : Dev nD) (t : Fin cfg0.N) : FVec F S256x1 .f32 := k0_pay2 (nrm0 m c t) (blk0 m c 5 t) (blk0 m c 6 t)

/-- The first region's proof data. -/
def dat0 (c : Dev nD) : Dat τ (Elt F) Unit ℕ (UR sig nD τ) ℕ cfg0 c where
  A w := V1 m c (Pipeline.arrRef spec0 w)
  after w t := match w with
    | ⟨0, _⟩ => blk0 m c 0 t
    | ⟨1, _⟩ => blk0 m c 1 t
    | ⟨2, _⟩ => blk0 m c 2 t
    | ⟨3, _⟩ => blk0 m c 3 t
    | ⟨4, _⟩ => blk0 m c 4 t
    | ⟨5, _⟩ => blk0 m c 5 t
    | ⟨6, _⟩ => blk0 m c 6 t
    | ⟨7, _⟩ => z0 m c t
    | ⟨8, _⟩ => s0 m c t
  Φ _ := Pipeline.scopedRest (Ix := Unit) (Name := ℕ) (U := UR sig nD τ) (Lvl := ℕ) (Val := Elt F) spec0 c
  q _ := fullShare
  owed _ := 0

/-- The codes and the scales that the first region leaves in its two result arrays. -/
def zArr (c : Dev nD) : Buf (Elt F) ((c : Thread nD τ).loc main_v6_0) := (dat0 m c).arrAt 7 cfg0.N
def sArr (c : Dev nD) : Buf (Elt F) ((c : Thread nD τ).loc main_v6_1) := (dat0 m c).arrAt 8 cfg0.N

/-- The first region's results as a valuation, -/
def res0 (c : Dev nD) : Valuation τ sig (Elt F) := Function.update (Function.update (V1 m c) main_v6_0 (zArr m c)) main_v6_1 (sArr m c)
/-- and as what the generated valuations are written over. -/
def outs0 : Outs (F := F) := fun _ r c => res0 m c r

/-- The unscoped buffers when the second region is entered. -/
abbrev W3 (c : Dev nD) : Valuation τ sig (Elt F) := V3 m (outs0 m) c

/-- The block of window `w` of the second region at point `t`, cut at the array's end. -/
abbrev blk1 (c : Dev nD) (w : Fin cfg1.W) (t : Fin cfg1.N) : ((cfg1.win w).xblock (grid1.coords t)).Idx → Elt F (cfg1.win w).elt :=
  ((cfg1.win w).blk t).view.read (Elt F) (W3 m c (Pipeline.arrRef spec1 w))
/-- Its staging buffer: the block filled out with anything. -/
abbrev fil1 (c : Dev nD) (w : Fin cfg1.W) (t : Fin cfg1.N) : (cfg1.win w).block.Idx → Elt F (cfg1.win w).elt :=
  (cfg1.win w).fill (grid1.coords t) (fun _ => Classical.arbitrary _) (blk1 m c w t)

/-- The pooled values at point `t`, the three clipped operands' buffers given. -/
abbrev poolOf (c : Dev nD) (t : Fin cfg1.N) (x5 : Vec F S1024x768 .fp8e4m3) (x6 x7 : Vec F S1x1024 .f32) : FVec F S3x1024 .f32 :=
  poolPre (blk1 m c 0 t) (blk1 m c 2 t) (blk1 m c 3 t) x5 x6 x7
/-- The pooled values of point `t`. -/
def pool1 (c : Dev nD) (t : Fin cfg1.N) : FVec F S3x1024 .f32 := poolOf m c t (fil1 m c 4 t) (fil1 m c 5 t) (fil1 m c 6 t)
/-- The requantising scale. -/
abbrev imp1 (c : Dev nD) (t : Fin cfg1.N) : Elt F .f32 := impAt (blk1 m c 1 t)

/-- The three accumulators after each point. -/
def accL1 (c : Dev nD) : (n : ℕ) → n < cfg1.N → FVec F S3x1 .f32
  | 0, h => outL1 (grid1.coords ⟨0, h⟩) (pool1 m c ⟨0, h⟩) k1_pay10
  | n + 1, h => outL1 (grid1.coords ⟨n + 1, h⟩) (pool1 m c ⟨n + 1, h⟩) (accL1 c n (Nat.lt_of_succ_lt h))
def accFlops (c : Dev nD) : (n : ℕ) → n < cfg1.N → FVec F S1x1 .f32
  | 0, h => outFlops (grid1.coords ⟨0, h⟩) (pool1 m c ⟨0, h⟩) k1_pay12
  | n + 1, h => outFlops (grid1.coords ⟨n + 1, h⟩) (pool1 m c ⟨n + 1, h⟩) (accFlops c n (Nat.lt_of_succ_lt h))
def accSat (c : Dev nD) : (n : ℕ) → n < cfg1.N → FVec F S3x1 .f32
  | 0, h => outSat (grid1.coords ⟨0, h⟩) (pool1 m c ⟨0, h⟩) (imp1 m c ⟨0, h⟩) k1_pay11
  | n + 1, h => outSat (grid1.coords ⟨n + 1, h⟩) (pool1 m c ⟨n + 1, h⟩) (imp1 m c ⟨n + 1, h⟩) (accSat c n (Nat.lt_of_succ_lt h))

/-- The second region's proof data. -/
def dat1 (c : Dev nD) : Dat τ (Elt F) Unit ℕ (UR sig nD τ) ℕ cfg1 c where
  A w := W3 m c (Pipeline.arrRef spec1 w)
  after w t := match w with
    | ⟨0, _⟩ => blk1 m c 0 t
    | ⟨1, _⟩ => blk1 m c 1 t
    | ⟨2, _⟩ => blk1 m c 2 t
    | ⟨3, _⟩ => blk1 m c 3 t
    | ⟨4, _⟩ => fil1 m c 4 t
    | ⟨5, _⟩ => fil1 m c 5 t
    | ⟨6, _⟩ => fil1 m c 6 t
    | ⟨7, _⟩ => outRep (grid1.coords t) (pool1 m c t)
    | ⟨8, _⟩ => accL1 m c t.val t.isLt
    | ⟨9, _⟩ => outMean (grid1.coords t) (pool1 m c t)
    | ⟨10, _⟩ => accFlops m c t.val t.isLt
    | ⟨11, _⟩ => outCodes (grid1.coords t) (pool1 m c t) (imp1 m c t)
    | ⟨12, _⟩ => accSat m c t.val t.isLt
  Φ _ := Pipeline.scopedRest (Ix := Unit) (Name := ℕ) (U := UR sig nD τ) (Lvl := ℕ) (Val := Elt F) spec1 c
  q _ := fullShare
  owed _ := 0

/-- The family of both. -/
def pdats : (p : Fin 2) → (c : Dev nD) → Dat τ (Elt F) Unit ℕ (UR sig nD τ) ℕ (cfgs p) c
  | ⟨0, _⟩ => dat0 m
  | ⟨1, _⟩ => dat1 m

/-! ## What a staging buffer holds when the body runs -/

theorem before0_0 (c : Dev nD) (t : Fin cfg0.N) (d) : (dat0 m c).before 0 t d = blk0 m c 0 t :=
  (dat0 m c).before_in_eq_fetched 0 rfl (fun _ => rfl) (fun _ _ _ => rfl) (fun _ => rfl) t d
theorem before0_1 (c : Dev nD) (t : Fin cfg0.N) (d) : (dat0 m c).before 1 t d = blk0 m c 1 t :=
  (dat0 m c).before_in_eq_fetched 1 rfl (fun _ => rfl) (fun _ _ _ => rfl) (fun _ => rfl) t d
theorem before0_2 (c : Dev nD) (t : Fin cfg0.N) (d) : (dat0 m c).before 2 t d = blk0 m c 2 t :=
  (dat0 m c).before_in_eq_fetched 2 rfl (fun _ => rfl) (fun _ _ _ => rfl) (fun _ => rfl) t d
theorem before0_3 (c : Dev nD) (t : Fin cfg0.N) (d) : (dat0 m c).before 3 t d = blk0 m c 3 t :=
  (dat0 m c).before_in_eq_fetched 3 rfl (fun _ => rfl) (fun _ _ _ => rfl) (fun _ => rfl) t d
theorem before0_4 (c : Dev nD) (t : Fin cfg0.N) (d) : (dat0 m c).before 4 t d = blk0 m c 4 t :=
  (dat0 m c).before_in_eq_fetched 4 rfl (fun _ => rfl) (fun _ _ _ => rfl) (fun _ => rfl) t d
theorem before0_5 (c : Dev nD) (t : Fin cfg0.N) (d) : (dat0 m c).before 5 t d = blk0 m c 5 t :=
  (dat0 m c).before_in_eq_fetched 5 rfl (fun _ => rfl) (fun _ _ _ => rfl) (fun _ => rfl) t d
theorem before0_6 (c : Dev nD) (t : Fin cfg0.N) (d) : (dat0 m c).before 6 t d = blk0 m c 6 t :=
  (dat0 m c).before_in_eq_fetched 6 rfl (fun _ => rfl) (fun _ _ _ => rfl) (fun _ => rfl) t d
theorem before1_0 (c : Dev nD) (t : Fin cfg1.N) (d) : (dat1 m c).before 0 t d = blk1 m c 0 t :=
  (dat1 m c).before_in_eq_fetched 0 rfl (fun _ => rfl) (fun _ _ _ => rfl) (fun _ => rfl) t d
theorem before1_1 (c : Dev nD) (t : Fin cfg1.N) (d) : (dat1 m c).before 1 t d = blk1 m c 1 t :=
  (dat1 m c).before_in_eq_fetched 1 rfl (fun _ => rfl) (fun _ _ _ => rfl) (fun _ => rfl) t d
theorem before1_2 (c : Dev nD) (t : Fin cfg1.N) (d) : (dat1 m c).before 2 t d = blk1 m c 2 t :=
  (dat1 m c).before_in_eq_fetched 2 rfl (fun _ => rfl) (fun _ _ _ => rfl) (fun _ => rfl) t d
theorem before1_3 (c : Dev nD) (t : Fin cfg1.N) (d) : (dat1 m c).before 3 t d = blk1 m c 3 t :=
  (dat1 m c).before_in_eq_fetched 3 rfl (fun _ => rfl) (fun _ _ _ => rfl) (fun _ => rfl) t d
theorem before1_4 (c : Dev nD) (t : Fin cfg1.N) (d) : (dat1 m c).before 4 t d = win1_4.fill (grid1.coords t) d (blk1 m c 4 t) := by
  unfold Dat.before; rw [if_pos (fetch1_4 t)]; rfl
theorem before1_5 (c : Dev nD) (t : Fin cfg1.N) (d) : (dat1 m c).before 5 t d = win1_5.fill (grid1.coords t) d (blk1 m c 5 t) := by
  unfold Dat.before; rw [if_pos (fetch1_5 t)]; rfl
theorem before1_6 (c : Dev nD) (t : Fin cfg1.N) (d) : (dat1 m c).before 6 t d = win1_6.fill (grid1.coords t) d (blk1 m c 6 t) := by
  unfold Dat.before; rw [if_pos (fetch1_6 t)]; rfl

/-! ## The first region's body -/

/-- From the staging buffers as fetched, the transform kernel leaves the proof data's contents. -/
theorem body0 (c : Dev nD) : BodyObligationLoose (dat0 m c) (defs₀ (F := F)) Variants.none () Set.univ := fun t => by
  rw [bigSep_W0, bigSep_W0]
  simp only
  rw [show (dat0 m c).Φ t.succ = (dat0 m c).Φ t.castSucc from rfl,
    show (dat0 m c).owesAt () t.succ = (dat0 m c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4, before0_5 m c t d5, before0_6 m c t d6]
  iapply (transform_run (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (blk0 m c 0 t) (blk0 m c 1 t) (blk0 m c 2 t) (blk0 m c 3 t) (blk0 m c 4 t) (blk0 m c 5 t) (blk0 m c 6 t) ((dat0 m c).before 7 t d7) ((dat0 m c).before 8 t d8) _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KernelIdeal.Obl.lean ====
/- The body obligations of the pooling region: with its results forgotten, and with them exact. -/
module

public import proofs.«01_k».proof.Proof.KernelIdeal.Data
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The grid coordinate of a point is its number. -/
theorem coord1 : ∀ t : Fin grid1.N, ((grid1.coords t) 0).val = t.val := by decide +kernel

/-- The body takes its first branch at the first point only. -/
theorem isFirst_iff : ∀ t : Fin grid1.N, isFirst (grid1.coords t) ↔ t.val = 0 := by decide +kernel

/-- The second region's windows that hold its results. -/
abbrev results1 : Fin cfg1.W → Bool := fun
  | 0 => false | 1 => false | 2 => false | 3 => false | 4 => false | 5 => false | 6 => false | 7 => true | 8 => true | 9 => true | 10 => true | 11 => true | 12 => true | ⟨_ + 13, h⟩ => absurd h (Nat.not_lt.2 (Nat.le_add_left _ _))
/-- No window. -/
abbrev none1 : Fin cfg1.W → Bool := fun _ => false

/-! ## What a step leaves depends on the pooled block inside the array only -/

theorem outCodes_congr (i : grid1.Coords) {p p' : FVec F S3x1024 .f32} (h : outRep i p = outRep i p') (q : Elt F .f32) : outCodes i p q = outCodes i p' q := by
  unfold outRep at h; unfold outCodes k1_pay8; rw [h]
theorem outMean_congr (i : grid1.Coords) {p p' : FVec F S3x1024 .f32} (h : outRep i p = outRep i p') : outMean i p = outMean i p' := by
  unfold outRep at h; unfold outMean k1_pay9; rw [h]
theorem outL1_congr (i : grid1.Coords) {p p' : FVec F S3x1024 .f32} (h : outRep i p = outRep i p') (a : FVec F S3x1 .f32) : outL1 i p a = outL1 i p' a := by
  unfold outRep at h; unfold outL1 k1_pay13; rw [h]
theorem outSat_congr (i : grid1.Coords) {p p' : FVec F S3x1024 .f32} (h : outRep i p = outRep i p') (q : Elt F .f32) (a : FVec F S3x1 .f32) :
    outSat i p q a = outSat i p' q a := by
  unfold outRep at h; unfold outSat; rw [h]
theorem outFlops_congr (i : grid1.Coords) {p p' : FVec F S3x1024 .f32} (h : outRep i p = outRep i p') (a : FVec F S1x1 .f32) : outFlops i p a = outFlops i p' a := by
  have h' := outMean_congr i h; unfold outMean at h'; unfold outFlops; rw [h']

/-! ## The accumulators -/

theorem accL1_first (c : Dev nD) (t : Fin cfg1.N) (h : t.val = 0) :
    accL1 m c t.val t.isLt = outL1 (grid1.coords t) (pool1 m c t) k1_pay10 := by
  obtain ⟨n, hn⟩ := t; obtain rfl : n = 0 := h; rfl
theorem accFlops_first (c : Dev nD) (t : Fin cfg1.N) (h : t.val = 0) :
    accFlops m c t.val t.isLt = outFlops (grid1.coords t) (pool1 m c t) k1_pay12 := by
  obtain ⟨n, hn⟩ := t; obtain rfl : n = 0 := h; rfl
theorem accSat_first (c : Dev nD) (t : Fin cfg1.N) (h : t.val = 0) :
    accSat m c t.val t.isLt = outSat (grid1.coords t) (pool1 m c t) (imp1 m c t) k1_pay11 := by
  obtain ⟨n, hn⟩ := t; obtain rfl : n = 0 := h; rfl

theorem accL1_later (c : Dev nD) (t : Fin cfg1.N) (h : t.val ≠ 0) :
    accL1 m c t.val t.isLt = outL1 (grid1.coords t) (pool1 m c t) (accL1 m c (t.val - 1) (Nat.lt_of_le_of_lt (Nat.sub_le _ _) t.isLt)) := by
  obtain ⟨n, hn⟩ := t; cases n with | zero => exact absurd rfl h | succ n => rfl
theorem accFlops_later (c : Dev nD) (t : Fin cfg1.N) (h : t.val ≠ 0) :
    accFlops m c t.val t.isLt = outFlops (grid1.coords t) (pool1 m c t) (accFlops m c (t.val - 1) (Nat.lt_of_le_of_lt (Nat.sub_le _ _) t.isLt)) := by
  obtain ⟨n, hn⟩ := t; cases n with | zero => exact absurd rfl h | succ n => rfl
theorem accSat_later (c : Dev nD) (t : Fin cfg1.N) (h : t.val ≠ 0) :
    accSat m c t.val t.isLt = outSat (grid1.coords t) (pool1 m c t) (imp1 m c t) (accSat m c (t.val - 1) (Nat.lt_of_le_of_lt (Nat.sub_le _ _) t.isLt)) := by
  obtain ⟨n, hn⟩ := t; cases n with | zero => exact absurd rfl h | succ n => rfl

theorem before1_8 (c : Dev nD) (t : Fin cfg1.N) (ht : t.val ≠ 0) (d) :
    (dat1 m c).before 8 t d = accL1 m c (t.val - 1) (Nat.lt_of_le_of_lt (Nat.sub_le _ _) t.isLt) :=
  (dat1 m c).before_out_kept 8 rfl t ht (by
    have h := t.isLt
    rw [Bool.eq_false_iff, ne_eq, flush1_8]
    have : t.val < 50 := lt_of_lt_of_eq h N_1
    show ¬ (t.val - 1) % 50 = 49
    omega) (fun _ => rfl) (fun _ a => by fin_cases a <;> rfl) d
theorem before1_10 (c : Dev nD) (t : Fin cfg1.N) (ht : t.val ≠ 0) (d) :
    (dat1 m c).before 10 t d = accFlops m c (t.val - 1) (Nat.lt_of_le_of_lt (Nat.sub_le _ _) t.isLt) :=
  (dat1 m c).before_out_kept 10 rfl t ht (by
    have h := t.isLt
    rw [Bool.eq_false_iff, ne_eq, flush1_10]
    have : t.val < 50 := lt_of_lt_of_eq h N_1
    show ¬ (t.val - 1) % 50 = 49
    omega) (fun _ => rfl) (fun _ a => by fin_cases a <;> rfl) d
theorem before1_12 (c : Dev nD) (t : Fin cfg1.N) (ht : t.val ≠ 0) (d) :
    (dat1 m c).before 12 t d = accSat m c (t.val - 1) (Nat.lt_of_le_of_lt (Nat.sub_le _ _) t.isLt) :=
  (dat1 m c).before_out_kept 12 rfl t ht (by
    have h := t.isLt
    rw [Bool.eq_false_iff, ne_eq, flush1_12]
    have : t.val < 50 := lt_of_lt_of_eq h N_1
    show ¬ (t.val - 1) % 50 = 49
    omega) (fun _ => rfl) (fun _ a => by fin_cases a <;> rfl) d

/-! ## The obligations -/

set_option maxHeartbeats 4000000 in
/-- With the results forgotten: the body runs, and leaves the operands' buffers as fetched. -/
theorem body1_forget (c : Dev nD) : BodyObligationLoose (dat1 m c) (defs₀ (F := F)) Variants.none () Set.univ results1 := fun t => by
  rw [bigSep_W1, bigSep_W1]
  simp only
  rw [show (dat1 m c).Φ t.succ = (dat1 m c).Φ t.castSucc from rfl,
    show (dat1 m c).owesAt () t.succ = (dat1 m c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before1_0 m c t d0, before1_1 m c t d1, before1_2 m c t d2, before1_3 m c t d3, before1_4 m c t d4, before1_5 m c t d5, before1_6 m c t d6]
  by_cases hi : isFirst (grid1.coords t)
  · iapply (pool_run_first (F := F) c Set.univ (grid1.coords t) hi (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12))
      (blk1 m c 0 t) (blk1 m c 1 t) (blk1 m c 2 t) (blk1 m c 3 t) (win1_4.fill (grid1.coords t) d4 (blk1 m c 4 t)) (win1_5.fill (grid1.coords t) d5 (blk1 m c 5 t)) (win1_6.fill (grid1.coords t) d6 (blk1 m c 6 t)) d7 d8 d9 d10 d11 d12 _)
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage1_4 (cfg1.slots t 4)) fullShare (win1_4.fill (grid1.coords t) d4 (win1_4.cut (grid1.coords t) (fil1 m c 4 t)))
      rw [show win1_4.cut (grid1.coords t) (fil1 m c 4 t) = blk1 m c 4 t from win1_4.cut_fill _ _ _]; try iexact H4
    isplitl [H5]
    · iexists d5
      change _ ⊢ owns (c : Thread nD τ) (stage1_5 (cfg1.slots t 5)) fullShare (win1_5.fill (grid1.coords t) d5 (win1_5.cut (grid1.coords t) (fil1 m c 5 t)))
      rw [show win1_5.cut (grid1.coords t) (fil1 m c 5 t) = blk1 m c 5 t from win1_5.cut_fill _ _ _]; try iexact H5
    isplitl [H6]
    · iexists d6
      change _ ⊢ owns (c : Thread nD τ) (stage1_6 (cfg1.slots t 6)) fullShare (win1_6.fill (grid1.coords t) d6 (win1_6.cut (grid1.coords t) (fil1 m c 6 t)))
      rw [show win1_6.cut (grid1.coords t) (fil1 m c 6 t) = blk1 m c 6 t from win1_6.cut_fill _ _ _]; try iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
  · iapply (pool_run_later (F := F) c Set.univ (grid1.coords t) hi (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12))
      (blk1 m c 0 t) (blk1 m c 1 t) (blk1 m c 2 t) (blk1 m c 3 t) (win1_4.fill (grid1.coords t) d4 (blk1 m c 4 t)) (win1_5.fill (grid1.coords t) d5 (blk1 m c 5 t)) (win1_6.fill (grid1.coords t) d6 (blk1 m c 6 t)) d7 d8 d9 d10 d11 d12 _)
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage1_4 (cfg1.slots t 4)) fullShare (win1_4.fill (grid1.coords t) d4 (win1_4.cut (grid1.coords t) (fil1 m c 4 t)))
      rw [show win1_4.cut (grid1.coords t) (fil1 m c 4 t) = blk1 m c 4 t from win1_4.cut_fill _ _ _]; try iexact H4
    isplitl [H5]
    · iexists d5
      change _ ⊢ owns (c : Thread nD τ) (stage1_5 (cfg1.slots t 5)) fullShare (win1_5.fill (grid1.coords t) d5 (win1_5.cut (grid1.coords t) (fil1 m c 5 t)))
      rw [show win1_5.cut (grid1.coords t) (fil1 m c 5 t) = blk1 m c 5 t from win1_5.cut_fill _ _ _]; try iexact H5
    isplitl [H6]
    · iexists d6
      change _ ⊢ owns (c : Thread nD τ) (stage1_6 (cfg1.slots t 6)) fullShare (win1_6.fill (grid1.coords t) d6 (win1_6.cut (grid1.coords t) (fil1 m c 6 t)))
      rw [show win1_6.cut (grid1.coords t) (fil1 m c 6 t) = blk1 m c 6 t from win1_6.cut_fill _ _ _]; try iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

set_option maxHeartbeats 4000000 in
/-- Exact, where the pooled block's columns inside the array do not depend on what fills the fetched blocks out. -/
theorem body1_exact (hind : ∀ (c : Dev nD) (t : Fin cfg1.N) d4 d5 d6,
      outRep (grid1.coords t) (poolOf m c t (win1_4.fill (grid1.coords t) d4 (blk1 m c 4 t)) (win1_5.fill (grid1.coords t) d5 (blk1 m c 5 t))
        (win1_6.fill (grid1.coords t) d6 (blk1 m c 6 t))) = outRep (grid1.coords t) (pool1 m c t)) (c : Dev nD) :
    BodyObligationLoose (dat1 m c) (defs₀ (F := F)) Variants.none () Set.univ none1 := fun t => by
  rw [bigSep_W1, bigSep_W1]
  simp only
  rw [show (dat1 m c).Φ t.succ = (dat1 m c).Φ t.castSucc from rfl,
    show (dat1 m c).owesAt () t.succ = (dat1 m c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before1_0 m c t d0, before1_1 m c t d1, before1_2 m c t d2, before1_3 m c t d3, before1_4 m c t d4, before1_5 m c t d5, before1_6 m c t d6]
  have h := hind c t d4 d5 d6
  by_cases hi : isFirst (grid1.coords t)
  · have ht := (isFirst_iff t).mp hi
    iapply (pool_run_first (F := F) c Set.univ (grid1.coords t) hi (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12))
      (blk1 m c 0 t) (blk1 m c 1 t) (blk1 m c 2 t) (blk1 m c 3 t) (win1_4.fill (grid1.coords t) d4 (blk1 m c 4 t)) (win1_5.fill (grid1.coords t) d5 (blk1 m c 5 t)) (win1_6.fill (grid1.coords t) d6 (blk1 m c 6 t)) ((dat1 m c).before 7 t d7) ((dat1 m c).before 8 t d8) ((dat1 m c).before 9 t d9) ((dat1 m c).before 10 t d10) ((dat1 m c).before 11 t d11) ((dat1 m c).before 12 t d12) _)
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage1_4 (cfg1.slots t 4)) fullShare (win1_4.fill (grid1.coords t) d4 (win1_4.cut (grid1.coords t) (fil1 m c 4 t)))
      rw [show win1_4.cut (grid1.coords t) (fil1 m c 4 t) = blk1 m c 4 t from win1_4.cut_fill _ _ _]; try iexact H4
    isplitl [H5]
    · iexists d5
      change _ ⊢ owns (c : Thread nD τ) (stage1_5 (cfg1.slots t 5)) fullShare (win1_5.fill (grid1.coords t) d5 (win1_5.cut (grid1.coords t) (fil1 m c 5 t)))
      rw [show win1_5.cut (grid1.coords t) (fil1 m c 5 t) = blk1 m c 5 t from win1_5.cut_fill _ _ _]; try iexact H5
    isplitl [H6]
    · iexists d6
      change _ ⊢ owns (c : Thread nD τ) (stage1_6 (cfg1.slots t 6)) fullShare (win1_6.fill (grid1.coords t) d6 (win1_6.cut (grid1.coords t) (fil1 m c 6 t)))
      rw [show win1_6.cut (grid1.coords t) (fil1 m c 6 t) = blk1 m c 6 t from win1_6.cut_fill _ _ _]; try iexact H6
    isplitl [H7]
    · iexists ((dat1 m c).after 7 t)
      change _ ⊢ owns (c : Thread nD τ) (stage1_7 (cfg1.slots t 7)) fullShare (win1_7.fill (grid1.coords t) ((dat1 m c).after 7 t) (win1_7.cut (grid1.coords t) ((dat1 m c).after 7 t)))
      rw [Window.fill_cut, show (dat1 m c).after 7 t = _ from (h).symm]; try iexact H7
    isplitl [H8]
    · change _ ⊢ owns (c : Thread nD τ) (stage1_8 (cfg1.slots t 8)) fullShare ((dat1 m c).after 8 t)
      rw [show (dat1 m c).after 8 t = _ from accL1_first m c t ht, ← outL1_congr _ h _]; try iexact H8
    isplitl [H9]
    · iexists ((dat1 m c).after 9 t)
      change _ ⊢ owns (c : Thread nD τ) (stage1_9 (cfg1.slots t 9)) fullShare (win1_9.fill (grid1.coords t) ((dat1 m c).after 9 t) (win1_9.cut (grid1.coords t) ((dat1 m c).after 9 t)))
      rw [Window.fill_cut, show (dat1 m c).after 9 t = _ from (outMean_congr _ h).symm]; try iexact H9
    isplitl [H10]
    · change _ ⊢ owns (c : Thread nD τ) (stage1_10 (cfg1.slots t 10)) fullShare ((dat1 m c).after 10 t)
      rw [show (dat1 m c).after 10 t = _ from accFlops_first m c t ht, ← outFlops_congr _ h _]; try iexact H10
    isplitl [H11]
    · iexists ((dat1 m c).after 11 t)
      change _ ⊢ owns (c : Thread nD τ) (stage1_11 (cfg1.slots t 11)) fullShare (win1_11.fill (grid1.coords t) ((dat1 m c).after 11 t) (win1_11.cut (grid1.coords t) ((dat1 m c).after 11 t)))
      rw [Window.fill_cut, show (dat1 m c).after 11 t = _ from (outCodes_congr _ h _).symm]; try iexact H11
    · change _ ⊢ owns (c : Thread nD τ) (stage1_12 (cfg1.slots t 12)) fullShare ((dat1 m c).after 12 t)
      rw [show (dat1 m c).after 12 t = _ from accSat_first m c t ht, ← outSat_congr _ h _ _]; try iexact H12
  · have ht := fun h0 => hi ((isFirst_iff t).mpr h0)
    rw [before1_8 m c t ht d8, before1_10 m c t ht d10, before1_12 m c t ht d12]
    iapply (pool_run_later (F := F) c Set.univ (grid1.coords t) hi (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12))
      (blk1 m c 0 t) (blk1 m c 1 t) (blk1 m c 2 t) (blk1 m c 3 t) (win1_4.fill (grid1.coords t) d4 (blk1 m c 4 t)) (win1_5.fill (grid1.coords t) d5 (blk1 m c 5 t)) (win1_6.fill (grid1.coords t) d6 (blk1 m c 6 t)) ((dat1 m c).before 7 t d7) (accL1 m c (t.val - 1) (Nat.lt_of_le_of_lt (Nat.sub_le _ _) t.isLt)) ((dat1 m c).before 9 t d9) (accFlops m c (t.val - 1) (Nat.lt_of_le_of_lt (Nat.sub_le _ _) t.isLt)) ((dat1 m c).before 11 t d11) (accSat m c (t.val - 1) (Nat.lt_of_le_of_lt (Nat.sub_le _ _) t.isLt)) _)
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (stage1_4 (cfg1.slots t 4)) fullShare (win1_4.fill (grid1.coords t) d4 (win1_4.cut (grid1.coords t) (fil1 m c 4 t)))
      rw [show win1_4.cut (grid1.coords t) (fil1 m c 4 t) = blk1 m c 4 t from win1_4.cut_fill _ _ _]; try iexact H4
    isplitl [H5]
    · iexists d5
      change _ ⊢ owns (c : Thread nD τ) (stage1_5 (cfg1.slots t 5)) fullShare (win1_5.fill (grid1.coords t) d5 (win1_5.cut (grid1.coords t) (fil1 m c 5 t)))
      rw [show win1_5.cut (grid1.coords t) (fil1 m c 5 t) = blk1 m c 5 t from win1_5.cut_fill _ _ _]; try iexact H5
    isplitl [H6]
    · iexists d6
      change _ ⊢ owns (c : Thread nD τ) (stage1_6 (cfg1.slots t 6)) fullShare (win1_6.fill (grid1.coords t) d6 (win1_6.cut (grid1.coords t) (fil1 m c 6 t)))
      rw [show win1_6.cut (grid1.coords t) (fil1 m c 6 t) = blk1 m c 6 t from win1_6.cut_fill _ _ _]; try iexact H6
    isplitl [H7]
    · iexists ((dat1 m c).after 7 t)
      change _ ⊢ owns (c : Thread nD τ) (stage1_7 (cfg1.slots t 7)) fullShare (win1_7.fill (grid1.coords t) ((dat1 m c).after 7 t) (win1_7.cut (grid1.coords t) ((dat1 m c).after 7 t)))
      rw [Window.fill_cut, show (dat1 m c).after 7 t = _ from (h).symm]; try iexact H7
    isplitl [H8]
    · change _ ⊢ owns (c : Thread nD τ) (stage1_8 (cfg1.slots t 8)) fullShare ((dat1 m c).after 8 t)
      rw [show (dat1 m c).after 8 t = _ from accL1_later m c t ht, ← outL1_congr _ h _]; try iexact H8
    isplitl [H9]
    · iexists ((dat1 m c).after 9 t)
      change _ ⊢ owns (c : Thread nD τ) (stage1_9 (cfg1.slots t 9)) fullShare (win1_9.fill (grid1.coords t) ((dat1 m c).after 9 t) (win1_9.cut (grid1.coords t) ((dat1 m c).after 9 t)))
      rw [Window.fill_cut, show (dat1 m c).after 9 t = _ from (outMean_congr _ h).symm]; try iexact H9
    isplitl [H10]
    · change _ ⊢ owns (c : Thread nD τ) (stage1_10 (cfg1.slots t 10)) fullShare ((dat1 m c).after 10 t)
      rw [show (dat1 m c).after 10 t = _ from accFlops_later m c t ht, ← outFlops_congr _ h _]; try iexact H10
    isplitl [H11]
    · iexists ((dat1 m c).after 11 t)
      change _ ⊢ owns (c : Thread nD τ) (stage1_11 (cfg1.slots t 11)) fullShare (win1_11.fill (grid1.coords t) ((dat1 m c).after 11 t) (win1_11.cut (grid1.coords t) ((dat1 m c).after 11 t)))
      rw [Window.fill_cut, show (dat1 m c).after 11 t = _ from (outCodes_congr _ h _).symm]; try iexact H11
    · change _ ⊢ owns (c : Thread nD τ) (stage1_12 (cfg1.slots t 12)) fullShare ((dat1 m c).after 12 t)
      rw [show (dat1 m c).after 12 t = _ from accSat_later m c t ht, ← outSat_congr _ h _ _]; try iexact H12

end Cert.KernelIdeal.Hand

end
-- ==== Proof.KernelIdeal.RunVals.lean ====
/- The whole program's run: the two host stretches and the two kernel regions, one after the other. -/
module

public import proofs.«01_k».proof.Proof.KernelIdeal.Obl
public import proofs.«01_k».proof.Proof.RegionF
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 400000

open Idealize.ShloMosaic.Pipeline (Seg HostSeg)
open Cert.RegionF

variable (m : (ℓ : Loc nD τ sig) → Buf (Elt F) ℓ) (ρ : Dev nD → PrngReg)

/-- The windows whose contents the proof forgets: none of the first region's, `f1` of the second's. -/
abbrev fgOf (f1 : Fin cfg1.W → Bool) : (q : Fin 2) → Fin (Pipeline.pin (pcfgs (F := F)) adm q).W → Bool
  | ⟨0, _⟩ => fun _ => false
  | ⟨1, _⟩ => f1

/-- The second region's arrays' contents after the run: a kept window's as the proof data says, a forgotten one's any. -/
def fin1 (f1 : Fin cfg1.W → Bool) (c : Dev nD) (A : (w : Fin cfg1.W) → Buf (Elt F) ((cfg1.win w).arr.view.loc (c : Thread nD τ))) (w : Fin cfg1.W) :
    Buf (Elt F) ((cfg1.win w).arr.view.loc (c : Thread nD τ)) :=
  bif f1 w then A w else (dat1 m c).arrAt w cfg1.N

/-- The unscoped buffers after the run. -/
def mk1 (f1 : Fin cfg1.W → Bool) (c : Dev nD) (A : (w : Fin cfg1.W) → Buf (Elt F) ((cfg1.win w).arr.view.loc (c : Thread nD τ))) : Valuation τ sig (Elt F) :=
  Function.update (Function.update (Function.update (Function.update (Function.update (Function.update (W3 m c) main_v10_0 (fin1 m f1 c A 7)) main_v10_1 (fin1 m f1 c A 8)) main_v10_2 (fin1 m f1 c A 9)) main_v10_3 (fin1 m f1 c A 10)) main_v10_4 (fin1 m f1 c A 11)) main_v10_5 (fin1 m f1 c A 12)

theorem mk1_of (f1 : Fin cfg1.W → Bool) (c : Dev nD) (A) (r : Ref sig .tc) (h : r ∉ ([main_v10_0, main_v10_1, main_v10_2, main_v10_3, main_v10_4, main_v10_5] : List (Ref sig .tc))) : mk1 m f1 c A r = W3 m c r := by
  simp only [List.mem_cons, List.not_mem_nil, or_false, not_or] at h
  obtain ⟨h0, h1, h2, h3, h4, h5⟩ := h
  unfold mk1
  rw [Function.update_of_ne (StableHlo.devRef_ne_of_ne h5), Function.update_of_ne (StableHlo.devRef_ne_of_ne h4), Function.update_of_ne (StableHlo.devRef_ne_of_ne h3),
    Function.update_of_ne (StableHlo.devRef_ne_of_ne h2), Function.update_of_ne (StableHlo.devRef_ne_of_ne h1), Function.update_of_ne (StableHlo.devRef_ne_of_ne h0)]
theorem mk1_0 (f1 : Fin cfg1.W → Bool) (c : Dev nD) (A) : mk1 m f1 c A main_v10_0 = fin1 m f1 c A 7 := by
  unfold mk1
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem mk1_1 (f1 : Fin cfg1.W → Bool) (c : Dev nD) (A) : mk1 m f1 c A main_v10_1 = fin1 m f1 c A 8 := by
  unfold mk1
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem mk1_2 (f1 : Fin cfg1.W → Bool) (c : Dev nD) (A) : mk1 m f1 c A main_v10_2 = fin1 m f1 c A 9 := by
  unfold mk1
  rw [Function.update_of_ne (StableHlo.devRef_ne_of_ne (by decide)), Function.update_of_ne (StableHlo.devRef_ne_of_ne (by decide)), Function.update_of_ne (StableHlo.devRef_ne_of_ne (by decide)), Function.update_self]
theorem mk1_3 (f1 : Fin cfg1.W → Bool) (c : Dev nD) (A) : mk1 m f1 c A main_v10_3 = fin1 m f1 c A 10 := by
  unfold mk1
  rw [Function.update_of_ne (StableHlo.devRef_ne_of_ne (by decide)), Function.update_of_ne (StableHlo.devRef_ne_of_ne (by decide)), Function.update_self]
theorem mk1_4 (f1 : Fin cfg1.W → Bool) (c : Dev nD) (A) : mk1 m f1 c A main_v10_4 = fin1 m f1 c A 11 := by
  unfold mk1
  rw [Function.update_of_ne (StableHlo.devRef_ne_of_ne (by decide)), Function.update_self]
theorem mk1_5 (f1 : Fin cfg1.W → Bool) (c : Dev nD) (A) : mk1 m f1 c A main_v10_5 = fin1 m f1 c A 12 := by
  unfold mk1
  rw [Function.update_self]

/-- What is left of a thread's state beside its buffers: it owes nothing. -/
abbrev rest1 (_ : Fin 3) (c : Dev nD) : sProp 𝕄 := iprop(∃ W, owes (c : Thread nD τ) (0 : CellTallies nD τ sig Unit) W)

abbrev L1 : GSem nD τ sig → Finset Unit := fun _ => ∅
abbrev lv1 : GSem nD τ sig → Unit → ℕ := fun _ _ => 0

/-- The pipeline library's algebra is the certificate's whole. -/
abbrev EP1 : Emb (UR sig nD τ) 𝕄 := emb₁

theorem arr1_eq (c : Dev nD) (w : Fin cfg1.W) : (dat1 m c).arrAt w 0 = W3 m c (Proc.devRef .tc (Pipeline.arrRef spec1 w)) := rfl
theorem arr0_eq (c : Dev nD) (w : Fin cfg0.W) : (dat0 m c).arrAt w 0 = V1 m c (Proc.devRef .tc (Pipeline.arrRef spec0 w)) := rfl

/-- After the first region every array of its windows holds what the valuation says. -/
theorem keep0 (c : Dev nD) : ∀ w : Fin cfg0.W, (dat0 m c).arrAt w cfg0.N = V2 m (outs0 m) c (Proc.devRef .tc (Pipeline.arrRef spec0 w))
  | ⟨0, _⟩ => ((dat0 m c).arrAt_in 0 rfl _).trans (V2_of m (outs0 m) c (Pipeline.arrRef spec0 0) (by decide)).symm
  | ⟨1, _⟩ => ((dat0 m c).arrAt_in 1 rfl _).trans (V2_of m (outs0 m) c (Pipeline.arrRef spec0 1) (by decide)).symm
  | ⟨2, _⟩ => ((dat0 m c).arrAt_in 2 rfl _).trans (V2_of m (outs0 m) c (Pipeline.arrRef spec0 2) (by decide)).symm
  | ⟨3, _⟩ => ((dat0 m c).arrAt_in 3 rfl _).trans (V2_of m (outs0 m) c (Pipeline.arrRef spec0 3) (by decide)).symm
  | ⟨4, _⟩ => ((dat0 m c).arrAt_in 4 rfl _).trans (V2_of m (outs0 m) c (Pipeline.arrRef spec0 4) (by decide)).symm
  | ⟨5, _⟩ => ((dat0 m c).arrAt_in 5 rfl _).trans (V2_of m (outs0 m) c (Pipeline.arrRef spec0 5) (by decide)).symm
  | ⟨6, _⟩ => ((dat0 m c).arrAt_in 6 rfl _).trans (V2_of m (outs0 m) c (Pipeline.arrRef spec0 6) (by decide)).symm
  | ⟨7, _⟩ => by
    show zArr m c = V2 m (outs0 m) c main_v6_0
    unfold V2 outs0 res0
    rw [Function.update_of_ne (StableHlo.devRef_ne_of_ne (by decide)), Function.update_self, Function.update_of_ne (StableHlo.devRef_ne_of_ne (by decide)), Function.update_self]
  | ⟨8, _⟩ => by
    show sArr m c = V2 m (outs0 m) c main_v6_1
    unfold V2 outs0 res0
    rw [Function.update_self, Function.update_self]

end Cert.KernelIdeal.Hand

end
-- ==== Proof.KernelIdeal.RunRegs.lean ====
/- The whole program's run: the two host stretches and the two kernel regions, one after the other. -/
module

public import proofs.«01_k».proof.Proof.KernelIdeal.RunVals
public import proofs.«01_k».proof.Proof.RegionF
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 400000

open Idealize.ShloMosaic.Pipeline (Seg HostSeg)
open Cert.RegionF

variable (m : (ℓ : Loc nD τ sig) → Buf (Elt F) ℓ) (ρ : Dev nD → PrngReg)

/-- Every array is held whole. -/
theorem hshare0 (c : Dev nD) (w) : (pdats m 0 c).share w = fullShare := (pdats m 0 c).share_full (fun _ => rfl) w
theorem hshare1 (c : Dev nD) (w) : (pdats m 1 c).share w = fullShare := (pdats m 1 c).share_full (fun _ => rfl) w

/-- What a region carries beside its windows is its own scratch. -/
theorem phi0 (c : Dev nD) (t) : (dat0 m c).Φ t = Pipeline.scopedRest (Ix := Unit) (Name := ℕ) (U := UR sig nD τ) (Lvl := ℕ) (Val := Elt F) spec0 c := by
  unfold dat0; dsimp only
theorem pin0 (c : Dev nD) : (Pipeline.scopedRest (Pipeline.pin (pcfgs (F := F)) adm 0).spec c : sProp 𝕄) = Pipeline.scopedRest spec0 c := rfl
theorem hphi0 (c : Dev nD) (t) : (pdats m 0 c).Φ t = Pipeline.scopedRest (Pipeline.pin (pcfgs (F := F)) adm 0).spec c := (phi0 m c t).trans (pin0 c).symm
theorem owed0 (c : Dev nD) (t) : (dat0 m c).owed t = 0 := by unfold dat0; rfl
theorem rec0 (c : Dev nD) : (dat0 m c).recorded 0 = Set.univ := by unfold dat0; rfl
/-- No array is scoped. -/
theorem uns0 : ∀ w : Fin 9, (Pipeline.arrRef spec0 w).isScoped = false := by decide
theorem phi1 (c : Dev nD) (t) : (dat1 m c).Φ t = Pipeline.scopedRest (Ix := Unit) (Name := ℕ) (U := UR sig nD τ) (Lvl := ℕ) (Val := Elt F) spec1 c := by
  unfold dat1; dsimp only
theorem pin1 (c : Dev nD) : (Pipeline.scopedRest (Pipeline.pin (pcfgs (F := F)) adm 1).spec c : sProp 𝕄) = Pipeline.scopedRest spec1 c := rfl
theorem hphi1 (c : Dev nD) (t) : (pdats m 1 c).Φ t = Pipeline.scopedRest (Pipeline.pin (pcfgs (F := F)) adm 1).spec c := (phi1 m c t).trans (pin1 c).symm
theorem owed1 (c : Dev nD) (t) : (dat1 m c).owed t = 0 := by unfold dat1; rfl
theorem rec1 (c : Dev nD) : (dat1 m c).recorded 0 = Set.univ := by unfold dat1; rfl
/-- No array is scoped. -/
theorem uns1 : ∀ w : Fin 13, (Pipeline.arrRef spec1 w).isScoped = false := by decide
theorem mem_main_v6_0 : (Proc.devRef .tc main_v6_0 : DevRef τ sig) ∈ Pipeline.arrRefs spec0 := by decide
theorem mem_main_v6_1 : (Proc.devRef .tc main_v6_1 : DevRef τ sig) ∈ Pipeline.arrRefs spec0 := by decide
theorem mem_main_v10_0 : (Proc.devRef .tc main_v10_0 : DevRef τ sig) ∈ Pipeline.arrRefs spec1 := by decide
theorem mem_main_v10_1 : (Proc.devRef .tc main_v10_1 : DevRef τ sig) ∈ Pipeline.arrRefs spec1 := by decide
theorem mem_main_v10_2 : (Proc.devRef .tc main_v10_2 : DevRef τ sig) ∈ Pipeline.arrRefs spec1 := by decide
theorem mem_main_v10_3 : (Proc.devRef .tc main_v10_3 : DevRef τ sig) ∈ Pipeline.arrRefs spec1 := by decide
theorem mem_main_v10_4 : (Proc.devRef .tc main_v10_4 : DevRef τ sig) ∈ Pipeline.arrRefs spec1 := by decide
theorem mem_main_v10_5 : (Proc.devRef .tc main_v10_5 : DevRef τ sig) ∈ Pipeline.arrRefs spec1 := by decide

/-- The first region's record. -/
def reg0 (f1 : Fin cfg1.W → Bool) := regF (pcfgs (F := F)) adm (pdats m) () (defs₀ (F := F)) Variants.none L1 lv1 0 (fgOf f1) launch0.toP rfl uns0
  (fun c => body0 m c) (owed0 m) (rec0 m) (hshare0 m) (hphi0 m)
  (V1 m) (arr0_eq m) (fun c _ => V2 m (outs0 m) c)
  (fun c A hA w => (hA w rfl).trans (keep0 m c w))
  (fun c A d hd => by
    obtain ⟨hu, hn⟩ := Finset.mem_sdiff.mp hd
    unfold V2
    rw [Function.update_of_ne, Function.update_of_ne]
    · rintro rfl; exact hn mem_main_v6_0
    · rintro rfl; exact hn mem_main_v6_1)

/-- After the second region every array of its windows holds what the valuation says. -/
theorem keep1 (f1 : Fin cfg1.W → Bool) (hin : ∀ w, w.val < 7 → f1 w = false) (c : Dev nD) (A) (hA : ∀ w, f1 w = false → A w = (dat1 m c).arrAt w cfg1.N) :
    ∀ w : Fin cfg1.W, A w = mk1 m f1 c A (Proc.devRef .tc (Pipeline.arrRef spec1 w)) := by
  have h7 : ∀ w, A w = fin1 m f1 c A w := fun w => by
    unfold fin1; cases h : f1 w with | false => exact hA w h | true => rfl
  intro w
  match w with
  | ⟨0, _⟩ => exact (hA 0 (hin 0 (by decide))).trans (((dat1 m c).arrAt_in 0 rfl _).trans (mk1_of m f1 c A (Pipeline.arrRef spec1 0) (by decide)).symm)
  | ⟨1, _⟩ => exact (hA 1 (hin 1 (by decide))).trans (((dat1 m c).arrAt_in 1 rfl _).trans (mk1_of m f1 c A (Pipeline.arrRef spec1 1) (by decide)).symm)
  | ⟨2, _⟩ => exact (hA 2 (hin 2 (by decide))).trans (((dat1 m c).arrAt_in 2 rfl _).trans (mk1_of m f1 c A (Pipeline.arrRef spec1 2) (by decide)).symm)
  | ⟨3, _⟩ => exact (hA 3 (hin 3 (by decide))).trans (((dat1 m c).arrAt_in 3 rfl _).trans (mk1_of m f1 c A (Pipeline.arrRef spec1 3) (by decide)).symm)
  | ⟨4, _⟩ => exact (hA 4 (hin 4 (by decide))).trans (((dat1 m c).arrAt_in 4 rfl _).trans (mk1_of m f1 c A (Pipeline.arrRef spec1 4) (by decide)).symm)
  | ⟨5, _⟩ => exact (hA 5 (hin 5 (by decide))).trans (((dat1 m c).arrAt_in 5 rfl _).trans (mk1_of m f1 c A (Pipeline.arrRef spec1 5) (by decide)).symm)
  | ⟨6, _⟩ => exact (hA 6 (hin 6 (by decide))).trans (((dat1 m c).arrAt_in 6 rfl _).trans (mk1_of m f1 c A (Pipeline.arrRef spec1 6) (by decide)).symm)
  | ⟨7, _⟩ => exact (h7 7).trans (mk1_0 m f1 c A).symm
  | ⟨8, _⟩ => exact (h7 8).trans (mk1_1 m f1 c A).symm
  | ⟨9, _⟩ => exact (h7 9).trans (mk1_2 m f1 c A).symm
  | ⟨10, _⟩ => exact (h7 10).trans (mk1_3 m f1 c A).symm
  | ⟨11, _⟩ => exact (h7 11).trans (mk1_4 m f1 c A).symm
  | ⟨12, _⟩ => exact (h7 12).trans (mk1_5 m f1 c A).symm

/-- The second region's record. -/
def reg1 (f1 : Fin cfg1.W → Bool) (hin : ∀ w, w.val < 7 → f1 w = false)
    (hobl : ∀ c, BodyObligationLoose (dat1 m c) (defs₀ (F := F)) Variants.none () Set.univ f1) :=
  regF (pcfgs (F := F)) adm (pdats m) () (defs₀ (F := F)) Variants.none L1 lv1 1 (fgOf f1) launch1.toP rfl uns1
  (fun c => hobl c) (owed1 m) (rec1 m) (hshare1 m) (hphi1 m)
  (W3 m) (arr1_eq m) (mk1 m f1)
  (fun c A hA w => keep1 m f1 hin c A hA w)
  (fun c A d hd => by
    obtain ⟨hu, hn⟩ := Finset.mem_sdiff.mp hd
    unfold mk1
    rw [Function.update_of_ne, Function.update_of_ne, Function.update_of_ne, Function.update_of_ne, Function.update_of_ne, Function.update_of_ne]
    · rintro rfl; exact hn mem_main_v10_0
    · rintro rfl; exact hn mem_main_v10_1
    · rintro rfl; exact hn mem_main_v10_2
    · rintro rfl; exact hn mem_main_v10_3
    · rintro rfl; exact hn mem_main_v10_4
    · rintro rfl; exact hn mem_main_v10_5)

end Cert.KernelIdeal.Hand

end
-- ==== Proof.KernelIdeal.Run.lean ====
/- The whole program's run: the two host stretches and the two kernel regions, one after the other. -/
module

public import proofs.«01_k».proof.Proof.KernelIdeal.RunRegs
public import proofs.«01_k».proof.Proof.RegionF
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 400000

open Idealize.ShloMosaic.Pipeline (Seg HostSeg)
open Cert.RegionF

variable (m : (ℓ : Loc nD τ sig) → Buf (Elt F) ℓ) (ρ : Dev nD → PrngReg)

/-- The program's items. -/
abbrev items (f1 : Fin cfg1.W → Bool) (hin : ∀ w, w.val < 7 → f1 w = false)
    (hobl : ∀ c, BodyObligationLoose (dat1 m c) (defs₀ (F := F)) Variants.none () Set.univ f1) (_ : Dev nD) :
    List (Pipeline.RDat.Seg (pcfgs (F := F)) adm (Pipeline.toRsF (pcfgs (F := F)) adm (pdats m) (fgOf f1)) () (defs₀ (F := F)) Variants.none L1 lv1) :=
  [.host (seg0 m Variants.none L1 lv1 rest1), .region (reg0 m f1), .host (seg2 m (outs0 m) Variants.none L1 lv1 rest1), .region (reg1 m f1 hin hobl)]

set_option backward.isDefEq.respectTransparency.types false in
/-- THE RUN. Every weakly fair execution terminates, faults nowhere, has every counter at zero at its end, and leaves every
    unscoped buffer as `mk1` says. -/
theorem run_whole (f1 : Fin cfg1.W → Bool) (hin : ∀ w, w.val < 7 → f1 w = false)
    (hobl : ∀ c, BodyObligationLoose (dat1 m c) (defs₀ (F := F)) Variants.none () Set.univ f1) :
    θ_run defs (onTc (τ := τ) (main (F := F))) ⟨m, fun _ => 0, ρ⟩ (fun r => (∀ c : Dev nD, ∃ A, ∀ b : Ref sig .tc, b.isScoped = false →
      r.2.mem ((c.tc : Thread nD τ).loc b) = mk1 m f1 c A b) ∧ r.2.sem = fun _ => 0) := by
  refine Pipeline.RDat.θ_run_regions_kit_dev_sems (pcfgs (F := F)) adm (Pipeline.toRsF (pcfgs (F := F)) adm (pdats m) (fgOf f1)) () cellOf_inj EP1 (defs₀ (F := F)) Variants.none L1 lv1 m ρ main
    (items m f1 hin hobl)
    (fun c Q => by
      rewrite [main_chain c, Pipeline.RDat.Seg.run_eq_chain,
        show (items m f1 hin hobl c).map Pipeline.RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Pipeline.RDat.Seg.pipes_host, Pipeline.RDat.Seg.pipes_region, Pipeline.RDat.Seg.pipes_nil]; decide) (O₀ := 0) (hL := fun _ _ => rfl)
    (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ rest1 0 c))
    (Tₙ := fun c => iprop(∃ A, StableHlo.held (c : Thread nD τ) (Pipeline.ucRefs τ sig) (mk1 m f1 c A)))
    (hch := fun c => ⟨.rfl, .rfl, ?_, .rfl, .rfl⟩)
    (hinit := ?_) (QY := fun c s => ∃ A, ∀ b : Ref sig .tc, b.isScoped = false → s.mem ((c.tc : Thread nD τ).loc b) = mk1 m f1 c A b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (EP1 (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · show iprop((∃ A, StableHlo.held (c.tc : Thread nD τ) (Pipeline.ucRefs τ sig) (V2 m (outs0 m) c)) ∗ rest1 1 c) ⊢ iprop(StableHlo.held (c.tc : Thread nD τ) (Pipeline.ucRefs τ sig) (V2 m (outs0 m) c) ∗ rest1 1 c)
    iintro ⟨⟨%A, Hh⟩, HO⟩
    isplitl [Hh]; · iexact Hh
    iexact HO
  · refine Pipeline.initEach L1 lv1 fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · iintro ⟨⟨%A, Hh⟩, HSI⟩
    unfold StableHlo.held
    ihave Hr := (pointsTo_read_all (Pipeline.ucRefs τ sig) (fun b => ((c : Thread nD τ).1, b)) (mk1 m f1 c A) s') $$ [Hh HSI]
    · isplitl [Hh] <;> iassumption
    icases Hr with ⟨%h, HSI⟩
    imodintro
    isplitr
    · ipureintro
      exact ⟨A, fun b hb => h (Proc.devRef .tc b) (Finset.mem_filter.mpr ⟨StableHlo.devRef_mem_tcRefs b, fun hs => Bool.false_ne_true (hb.symm.trans hs)⟩)⟩
    · iexact HSI

/-- An argument reaches the end as launched. -/
theorem mk1_arg (f1 : Fin cfg1.W → Bool) (c : Dev nD) (A) (r : Ref sig .tc) (h : r ∉ ([main_v10_0, main_v10_1, main_v10_2, main_v10_3, main_v10_4, main_v10_5] : List (Ref sig .tc)))
    (h3 : r ∉ hostOps1_W) (h2 : r ∉ ([main_v6_0, main_v6_1] : List (Ref sig .tc))) (h1 : r ∉ hostOps0_W) : mk1 m f1 c A r = m ((c : Thread nD τ).loc r) :=
  (mk1_of m f1 c A r h).trans <| (V3_of m (outs0 m) c r h3).trans <| (V2_of m (outs0 m) c r h2).trans <| (V1_of m c r h1).trans rfl

/-- What the run leaves in the arguments. -/
abbrev ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

theorem argsKept (f1 : Fin cfg1.W → Bool) (c : Dev nD) (A) (s : MemSt nD τ sig (Elt F))
    (h : ∀ b : Ref sig .tc, b.isScoped = false → s.mem ((c.tc : Thread nD τ).loc b) = mk1 m f1 c A b) : ArgsKept m s c :=
  ⟨(h main_arg0 (by decide)).trans (mk1_arg m f1 c A main_arg0 (by decide) (by decide) (by decide) (by decide)),
    (h main_arg1 (by decide)).trans (mk1_arg m f1 c A main_arg1 (by decide) (by decide) (by decide) (by decide)),
    (h main_arg2 (by decide)).trans (mk1_arg m f1 c A main_arg2 (by decide) (by decide) (by decide) (by decide)),
    (h main_arg3 (by decide)).trans (mk1_arg m f1 c A main_arg3 (by decide) (by decide) (by decide) (by decide)),
    (h main_arg4 (by decide)).trans (mk1_arg m f1 c A main_arg4 (by decide) (by decide) (by decide) (by decide)),
    (h main_arg5 (by decide)).trans (mk1_arg m f1 c A main_arg5 (by decide) (by decide) (by decide) (by decide)),
    (h main_arg6 (by decide)).trans (mk1_arg m f1 c A main_arg6 (by decide) (by decide) (by decide) (by decide)),
    (h main_arg7 (by decide)).trans (mk1_arg m f1 c A main_arg7 (by decide) (by decide) (by decide) (by decide)),
    (h main_arg8 (by decide)).trans (mk1_arg m f1 c A main_arg8 (by decide) (by decide) (by decide) (by decide)),
    (h main_arg9 (by decide)).trans (mk1_arg m f1 c A main_arg9 (by decide) (by decide) (by decide) (by decide)),
    (h main_arg10 (by decide)).trans (mk1_arg m f1 c A main_arg10 (by decide) (by decide) (by decide) (by decide)),
    (h main_arg11 (by decide)).trans (mk1_arg m f1 c A main_arg11 (by decide) (by decide) (by decide) (by decide))⟩

/-- THE FRAME: the arguments end as launched, whatever the pooling region's results hold. -/
theorem frame : θ_run defs (onTc (τ := τ) (main (F := F))) ⟨m, fun _ => 0, ρ⟩ (fun r => (∀ c : Dev nD, ArgsKept m r.2 c) ∧ r.2.sem = fun _ => 0) :=
  (run_whole m ρ results1 (by decide) (body1_forget m)).mono fun r h => ⟨fun c => let ⟨A, hA⟩ := h.1 c; argsKept m _ c A r hA, h.2⟩

/-- The results, where the pooled block's columns inside the array do not depend on what fills the fetched blocks out. -/
theorem run_exact (hobl : ∀ c, BodyObligationLoose (dat1 m c) (defs₀ (F := F)) Variants.none () Set.univ none1) :
    θ_run defs (onTc (τ := τ) (main (F := F))) ⟨m, fun _ => 0, ρ⟩ (fun r => ∀ c : Dev nD,
      r.2.mem ((c.tc : Thread nD τ).loc main_v6_0) = zArr m c
      ∧ r.2.mem ((c.tc : Thread nD τ).loc main_v6_1) = sArr m c
      ∧ r.2.mem ((c.tc : Thread nD τ).loc main_v10_0) = (dat1 m c).arrAt 7 cfg1.N
      ∧ r.2.mem ((c.tc : Thread nD τ).loc main_v10_1) = (dat1 m c).arrAt 8 cfg1.N
      ∧ r.2.mem ((c.tc : Thread nD τ).loc main_v10_2) = (dat1 m c).arrAt 9 cfg1.N
      ∧ r.2.mem ((c.tc : Thread nD τ).loc main_v10_3) = (dat1 m c).arrAt 10 cfg1.N
      ∧ r.2.mem ((c.tc : Thread nD τ).loc main_v10_4) = (dat1 m c).arrAt 11 cfg1.N
      ∧ r.2.mem ((c.tc : Thread nD τ).loc main_v10_5) = (dat1 m c).arrAt 12 cfg1.N
      ∧ ArgsKept m r.2 c) := by
  refine (run_whole m ρ none1 (fun _ _ => rfl) hobl).mono fun r h c => ?_
  obtain ⟨A, hA⟩ := h.1 c
  refine ⟨?_, ?_, (hA main_v10_0 (by decide)).trans (mk1_0 m none1 c A), (hA main_v10_1 (by decide)).trans (mk1_1 m none1 c A), (hA main_v10_2 (by decide)).trans (mk1_2 m none1 c A), (hA main_v10_3 (by decide)).trans (mk1_3 m none1 c A), (hA main_v10_4 (by decide)).trans (mk1_4 m none1 c A), (hA main_v10_5 (by decide)).trans (mk1_5 m none1 c A), argsKept m none1 c A r hA⟩
  · rw [hA main_v6_0 (by decide), mk1_of m none1 c A main_v6_0 (by decide), W3, V3_of m (outs0 m) c main_v6_0 (by decide)]
    exact (keep0 m c 7).symm
  · rw [hA main_v6_1 (by decide), mk1_of m none1 c A main_v6_1 (by decide), W3, V3_of m (outs0 m) c main_v6_1 (by decide)]
    exact (keep0 m c 8).symm

end Cert.KernelIdeal.Hand

end
-- ==== Proof.Value.Spec.lean ====
module

public import Idealize.ShloMosaic.Lib.Pointwise

/-!
The function that kernel and reference share, written out row by row and column by column over the extended reals:
one row of the transform (linear map, gelu, layer norm, quantiser) and one column of the pooling.
-/

@[expose] public section

noncomputable section

namespace Cert.Spec

open Idealize.ShloMosaic

/-- A constant of the programs, given by its binary32 pattern. -/
abbrev lit (b : BitVec 32) : EReal := Ideal.ofBits .f32 b

/-- One row of the linear map: the product with the weights, times the row's and the column's scale, plus the bias. -/
def lin (x : Fin 768 → EReal) (xs : EReal) (w : Fin 768 → Fin 768 → EReal) (ws bt : Fin 768 → EReal)
    (k : Fin 768) : EReal :=
  (∑ j, x j * w j k) * xs * ws k + bt k

theorem lin_congr {x x' : Fin 768 → EReal} {xs xs' : EReal} {w w' : Fin 768 → Fin 768 → EReal} {ws ws' bt bt' : Fin 768 → EReal}
    (h0 : ∀ j, x j = x' j) (h1 : xs = xs') (h2 : ∀ j k, w j k = w' j k) (h3 : ∀ k, ws k = ws' k) (h4 : ∀ k, bt k = bt' k) :
    lin x xs w ws bt = lin x' xs' w' ws' bt' := by
  obtain rfl := funext h0
  obtain rfl := h1
  obtain rfl : w = w' := funext fun j => funext (h2 j)
  obtain rfl := funext h3
  obtain rfl := funext h4
  rfl

/-- The gelu of one number. -/
def gelu (t : EReal) : EReal :=
  lit 1056964608#32 * t * (1 + FloatOps.erf (F := Ideal) (φ := .f32) (t * lit 1060439283#32))

/-- A row less its mean. -/
def centred (g : Fin 768 → EReal) (k : Fin 768) : EReal := g k - Ideal.div (∑ j, g j) (lit 1145044992#32)

/-- The mean of a row's squares. -/
def meanSq (g : Fin 768 → EReal) : EReal := Ideal.div (∑ j, g j * g j) (lit 1145044992#32)

/-- A centred row over its standard deviation. -/
def normed (g : Fin 768 → EReal) (k : Fin 768) : EReal :=
  Ideal.div (g k) (Ideal.sqrt (meanSq g + lit 730643660#32))

/-- The greatest absolute value of a row. -/
def absMax (y : Fin 768 → EReal) : EReal :=
  Finset.fold max (lit 4286578688#32) (fun j => FloatOps.absf (F := Ideal) (φ := .f32) (y j)) Finset.univ

/-- The scale of a row: its greatest absolute value over 448, or 1 for a row of zeros. -/
def scale (y : Fin 768 → EReal) : EReal :=
  if absMax y = 0 then 1 else Ideal.div (absMax y) (lit 1138753536#32)

/-- The codes of a row: its entries over the scale, clipped to ±448. -/
def code (y : Fin 768 → EReal) (k : Fin 768) : EReal :=
  min (lit 1138753536#32) (max (lit 3286237184#32) (Ideal.div (y k) (scale y)))

/-- One row of the transform before the quantiser. -/
def row (x : Fin 768 → EReal) (xs : EReal) (w : Fin 768 → Fin 768 → EReal) (ws bt g b : Fin 768 → EReal)
    (k : Fin 768) : EReal :=
  normed (centred fun j => gelu (lin x xs w ws bt j)) k * g k + b k

/-- The greatest logit of a column over the first `len` of a document's 512 rows. -/
def top (z : Fin 512 → Fin 768 → EReal) (zs : Fin 512 → EReal) (e : Fin 768 → EReal) (es bv : EReal)
    (len : BitVec 32) : EReal :=
  Finset.fold max (lit 4286578688#32) (fun s : Fin 512 =>
    Scalar.select (IntOp.cmpi .slt (BitVec.ofNat 32 s.val) len) ((∑ j, z s j * e j) * zs s * es + bv)
      (lit 4286578688#32)) Finset.univ

/-- One entry of the pooled representation: `log (1 + max (greatest logit) 0)`. -/
def pooled (z : Fin 512 → Fin 768 → EReal) (zs : Fin 512 → EReal) (e : Fin 768 → EReal) (es bv : EReal)
    (len : BitVec 32) : EReal :=
  Ideal.log1p (max (top z zs e es bv len) 0)

theorem pooled_congr {z z' : Fin 512 → Fin 768 → EReal} {zs zs' : Fin 512 → EReal} {e e' : Fin 768 → EReal} {es es' bv bv' : EReal}
    {len len' : BitVec 32} (h0 : ∀ r k, z r k = z' r k) (h1 : ∀ r, zs r = zs' r) (h2 : ∀ k, e k = e' k) (h3 : es = es')
    (h4 : bv = bv') (h5 : len = len') : pooled z zs e es bv len = pooled z' zs' e' es' bv' len' := by
  obtain rfl : z = z' := funext fun r => funext (h0 r)
  obtain rfl := funext h1
  obtain rfl := funext h2
  subst h3 h4 h5
  rfl

/-- The quotient of an entry by the impact scale, rounded and clipped to 0 … 255. -/
def impact (v imp : EReal) : EReal :=
  min (lit 1132396544#32) (max 0 (Ideal.liftRound Ideal.roundHalfEven (Ideal.div v imp)))

/-- What of an entry the impact codes cannot hold. -/
def excess (v imp : EReal) : EReal := max (v - lit 1132396544#32 * imp) 0

/-- The mean over the three documents. -/
def docMean (v : Fin 3 → EReal) : EReal := Ideal.div (∑ d, v d) (lit 1077936128#32)

/-- The arguments, each as a plain function of its coordinates. -/
structure Args where
  x : Fin 3 → Fin 512 → Fin 768 → EReal
  xs : Fin 3 → Fin 512 → EReal
  len : Fin 3 → BitVec 32
  w : Fin 768 → Fin 768 → EReal
  ws : Fin 768 → EReal
  bt : Fin 768 → EReal
  g : Fin 768 → EReal
  b : Fin 768 → EReal
  e : Fin 50368 → Fin 768 → EReal
  es : Fin 50368 → EReal
  bv : Fin 50368 → EReal
  imp : EReal

namespace Args

variable (A : Args)

/-- The row of a document's token before the quantiser. -/
def row (d : Fin 3) (r : Fin 512) : Fin 768 → EReal := Spec.row (A.x d r) (A.xs d r) A.w A.ws A.bt A.g A.b
/-- Its codes. -/
def z (d : Fin 3) (r : Fin 512) : Fin 768 → EReal := code (A.row d r)
/-- Its scale. -/
def zs (d : Fin 3) (r : Fin 512) : EReal := scale (A.row d r)
/-- The pooled entry of a document at a column of the vocabulary. -/
def rep (d : Fin 3) (v : Fin 50368) : EReal := pooled (A.z d) (A.zs d) (A.e v) (A.es v) (A.bv v) (A.len d)
/-- The mean over the documents. -/
def mean (v : Fin 50368) : EReal := docMean fun d => A.rep d v
/-- The impact code. -/
def impactCode (d : Fin 3) (v : Fin 50368) : BitVec 8 := Ideal.fptoui 8 (impact (A.rep d v) A.imp)
/-- A document's sum of pooled entries. -/
def l1 (d : Fin 3) : EReal := ∑ v, A.rep d v
/-- The sum of the squared means. -/
def flops : EReal := ∑ v, A.mean v * A.mean v
/-- A document's sum of what the codes cannot hold. -/
def sat (d : Fin 3) : EReal := ∑ v, excess (A.rep d v) A.imp

end Args

end Cert.Spec
-- ==== Proof.Value.KRow.lean ====
module

public import proofs.«01_k».proof.Proof.Gen.KernelIdeal.Skeleton
public import proofs.«01_k».proof.Proof.Value.Spec

/-! What the kernel's transform computes of one row of its block. -/

@[expose] public section

set_option maxRecDepth 16384

noncomputable section

namespace Cert.Spec

open Idealize.ShloMosaic Cert.KernelIdeal Cert.KernelIdeal.Gen

/-- The normalised row of the kernel's block, before scale and shift. -/
theorem kern_pay4 (x : Vec Ideal S256x768 .fp8e4m3) (w : Vec Ideal S768x768 .fp8e4m3) (xs : Vec Ideal S256x1 .f32)
    (ws bt : Vec Ideal S1x768 .f32) (r : Fin 256) (k : Fin 768) :
    k0_pay4 (F := Ideal) x w xs ws bt (ix2 r k) =
      normed (centred fun j => gelu (lin (fun j => x (ix2 r j)) (xs (ix2 r 0)) (fun j k => w (ix2 j k))
        (fun j => ws (ix2 0 j)) (fun j => bt (ix2 0 j)) j)) k := by
  pointwise [k0_pay4]
  rfl

/-- The row's scale, as the kernel stores it. -/
theorem kern_pay2 (y : FVec Ideal S256x768 .f32) (g b : Vec Ideal S1x768 .f32) (r : Fin 256) :
    k0_pay2 (F := Ideal) y g b (ix2 r 0) = scale fun k => y (ix2 r k) * g (ix2 0 k) + b (ix2 0 k) := by
  pointwise [k0_pay2, k0_pay1]
  rfl

/-- The row's codes, as the kernel stores them. -/
theorem kern_pay3 (y : FVec Ideal S256x768 .f32) (g b : Vec Ideal S1x768 .f32) (r : Fin 256) (k : Fin 768) :
    k0_pay3 (F := Ideal) y g b (ix2 r k) = code (fun k => y (ix2 r k) * g (ix2 0 k) + b (ix2 0 k)) k := by
  pointwise [k0_pay3, k0_pay2, k0_pay1]
  rfl

end Cert.Spec
-- ==== Proof.Value.KIn0.lean ====
module

public import proofs.«01_k».proof.Proof.KernelIdeal.RunVals
public import Idealize.ShloMosaic.Lib.Pipeline.ValueKit
public import Idealize.ShloMosaic.Lib.Pointwise
public import proofs.«01_k».proof.Proof.Value.KRow

/-! The kernel's first region: its argument blocks and its two result arrays, at an index. -/

@[expose] public section

set_option maxRecDepth 16384

noncomputable section

namespace Cert.KernelIdeal.Hand

open Cert.KernelIdeal Cert.KernelIdeal.Gen Cert.Spec Idealize.ShloMosaic Idealize.ShloMosaic.TcCoe
open Idealize.ShloMosaic.Pipeline (Dat)

variable (m : (ℓ : Loc nD τ sig) → Buf (Elt Ideal) ℓ) (c : Dev nD) (t : Fin cfg0.N)

/-- The arguments as plain functions. -/
def args : Cert.Spec.Args where
  x d r k := m ((c.tc : Thread nD τ).loc main_arg0) (ix3 d r k)
  xs d r := m ((c.tc : Thread nD τ).loc main_arg1) (ix2 d r)
  len d := m ((c.tc : Thread nD τ).loc main_arg2) (ix1 d)
  w j k := m ((c.tc : Thread nD τ).loc main_arg3) (ix2 j k)
  ws k := m ((c.tc : Thread nD τ).loc main_arg4) (ix1 k)
  bt k := m ((c.tc : Thread nD τ).loc main_arg5) (ix1 k)
  g k := m ((c.tc : Thread nD τ).loc main_arg6) (ix1 k)
  b k := m ((c.tc : Thread nD τ).loc main_arg7) (ix1 k)
  e v k := m ((c.tc : Thread nD τ).loc main_arg8) (ix2 v k)
  es v := m ((c.tc : Thread nD τ).loc main_arg9) (ix1 v)
  bv v := m ((c.tc : Thread nD τ).loc main_arg10) (ix1 v)
  imp := m ((c.tc : Thread nD τ).loc main_arg11) ix0

theorem idx0 : ∀ t : Fin cfg0.N, win0_0.index t = ![t.val, 0] ∧ win0_1.index t = ![t.val, 0] ∧
    win0_2.index t = ![0, 0] ∧ win0_3.index t = ![0, 0] ∧ win0_4.index t = ![0, 0] ∧ win0_5.index t = ![0, 0] ∧ win0_6.index t = ![0, 0] ∧
    win0_7.index t = ![t.val, 0] ∧ win0_8.index t = ![t.val, 0] := by
  decide +kernel

theorem lt6 (t : Fin cfg0.N) : t.val < 6 := lt_of_lt_of_eq t.isLt N_0

/-- The document and the token of row `r` of block `t`. -/
def docOf (t : Fin cfg0.N) (r : Fin 256) : Fin 3 := ⟨(t.val * 256 + r.val) / 512, by have := lt6 t; omega⟩
def tokOf (t : Fin cfg0.N) (r : Fin 256) : Fin 512 := ⟨(t.val * 256 + r.val) % 512, by omega⟩

theorem kin0 (r : Fin 256) (k : Fin 768) : blk0 m c 0 t (ix2 r k) = (args m c).x (docOf t r) (tokOf t r) k := by
  unfold args docOf tokOf
  blk_point [blk0, V1, idx0 t]
theorem kin1 (r : Fin 256) : blk0 m c 1 t (ix2 r 0) = (args m c).xs (docOf t r) (tokOf t r) := by
  unfold args docOf tokOf
  blk_point [blk0, V1, idx0 t]
theorem kin2 (j k : Fin 768) : blk0 m c 2 t (ix2 j k) = (args m c).w j k := by
  unfold args
  blk_point [blk0, V1, idx0 t]
theorem kin3 (k : Fin 768) : blk0 m c 3 t (ix2 0 k) = (args m c).ws k := by
  unfold args
  blk_point [blk0, V1, idx0 t]

theorem kin4 (k : Fin 768) : blk0 m c 4 t (ix2 0 k) = (args m c).bt k := by
  unfold args
  blk_point [blk0, V1, idx0 t]
theorem kin5 (k : Fin 768) : blk0 m c 5 t (ix2 0 k) = (args m c).g k := by
  unfold args
  blk_point [blk0, V1, idx0 t]
theorem kin6 (k : Fin 768) : blk0 m c 6 t (ix2 0 k) = (args m c).b k := by
  unfold args
  blk_point [blk0, V1, idx0 t]

/-- The normalised rows of a block. -/
theorem nrm0_eq (r : Fin 256) (k : Fin 768) : nrm0 m c t (ix2 r k) =
    normed (centred fun j => gelu (lin ((args m c).x (docOf t r) (tokOf t r)) ((args m c).xs (docOf t r) (tokOf t r))
      (args m c).w (args m c).ws (args m c).bt j)) k :=
  (kern_pay4 _ _ _ _ _ r k).trans (congrArg (fun l : Fin 768 → EReal => normed (centred fun j => gelu (l j)) k)
    (lin_congr (fun j => kin0 m c t r j) (kin1 m c t r) (fun j k => kin2 m c t j k) (fun k => kin3 m c t k) (fun k => kin4 m c t k)))

/-- The scaled and shifted rows of a block. -/
theorem row0_eq (r : Fin 256) (k : Fin 768) : nrm0 m c t (ix2 r k) * blk0 m c 5 t (ix2 0 k) + blk0 m c 6 t (ix2 0 k) =
    (args m c).row (docOf t r) (tokOf t r) k :=
  congrArg₂ (fun a b : EReal => a + b) (congrArg₂ (fun a b : EReal => a * b) (nrm0_eq m c t r k) (kin5 m c t k)) (kin6 m c t k)

/-- The codes of a block. -/
theorem z0_eq (r : Fin 256) (k : Fin 768) : z0 m c t (ix2 r k) = (args m c).z (docOf t r) (tokOf t r) k :=
  (kern_pay3 _ _ _ r k).trans (congrArg (fun y : Fin 768 → EReal => code y k) (funext fun k => row0_eq m c t r k))

/-- The scales of a block. -/
theorem s0_eq (r : Fin 256) : s0 m c t (ix2 r 0) = (args m c).zs (docOf t r) (tokOf t r) :=
  (kern_pay2 _ _ _ r).trans (congrArg (fun y : Fin 768 → EReal => scale y) (funext fun k => row0_eq m c t r k))

/-- The codes' array after the first region. -/
theorem zArr_eq : zArr m c = fun i : S1536x768.Idx =>
    (args m c).z ⟨(i 0).val / 512, by have h : (i 0).val < 1536 := (i 0).isLt; omega⟩ ⟨(i 0).val % 512, by omega⟩ (i 1) := by
  unfold zArr
  refine (dat0 m c).arrAt_eq_of_covers 7 _ (by decide +kernel) fun t hf y => ?_
  blk_simp
  have hy : y = (ix2 (y 0) (y 1) : S256x768.Idx) := by funext a; fin_cases a <;> rfl
  refine (show (dat0 m c).after 7 t y = z0 m c t (ix2 (y 0) (y 1)) from congrArg (z0 m c t) hy).trans ((z0_eq m c t _ _).trans ?_)
  unfold docOf tokOf
  have e : ((win0_7.blk t).view.emb y 1) = (y 1 : Fin 768) := by
    apply Fin.ext
    blk_simp [idx0 t]
  rw [e]
  blk_simp [idx0 t]

theorem after0_8 : (dat0 m c).after 8 t = s0 m c t := by
  dsimp only [dat0]

/-- The scales' array after the first region. -/
theorem sArr_eq : sArr m c = fun i : S1536x1.Idx =>
    (args m c).zs ⟨(i 0).val / 512, by have h : (i 0).val < 1536 := (i 0).isLt; omega⟩ ⟨(i 0).val % 512, by omega⟩ := by
  unfold sArr
  refine (dat0 m c).arrAt_eq_of_covers 8 _ (by decide +kernel) fun t hf y => ?_
  blk_simp
  have hy : y = (ix2 (y 0) 0 : S256x1.Idx) := by
    funext a
    fin_cases a
    · rfl
    · exact Fin.ext (by have h : (y 1).val < 1 := (y 1).isLt; show (y 1).val = 0; omega)
  rw [after0_8 m c t]
  have h2 : s0 m c t y = s0 m c t (ix2 (y 0) 0) := congrArg (s0 m c t) hy
  refine h2.trans ((s0_eq m c t (y 0)).trans ?_)
  unfold docOf tokOf
  blk_simp [idx0 t]

end Cert.KernelIdeal.Hand
-- ==== Proof.Value.KPool.lean ====
module

public import proofs.«01_k».proof.Proof.KernelIdeal.Body1
public import proofs.«01_k».proof.Proof.Value.Spec

/-! What the kernel's pooling body computes of one column of its block: the greatest logit of each document. -/

@[expose] public section

set_option maxRecDepth 16384

noncomputable section

namespace Cert.Spec

open Idealize.ShloMosaic Cert.KernelIdeal Cert.KernelIdeal.Gen Cert.KernelIdeal.Hand

variable (z : Vec Ideal S512x768 .fp8e4m3) (e : Vec Ideal S1024x768 .fp8e4m3) (s : Vec Ideal S512x1 .f32)
  (es bv : Vec Ideal S1x1024 .f32)

/-- The column's greatest logit over the first document. -/
theorem kern_pay3_top (len : Elt Ideal .i32) (v : Fin 1024) :
    k1_pay3 (F := Ideal) z e s es bv len (ix2 0 v) =
      top (fun r j => z (ix2 r j)) (fun r => s (ix2 r 0)) (fun j => e (ix2 v j)) (es (ix2 0 v)) (bv (ix2 0 v)) len := by
  pointwise [k1_pay3]
  rfl

/-- A logit of the second document, before its bias. -/
theorem kern_pay4_apply (r : Fin 512) (v : Fin 1024) :
    k1_pay4 (F := Ideal) z e s es (ix2 r v) = (∑ j, z (ix2 r j) * e (ix2 v j)) * s (ix2 r 0) * es (ix2 0 v) := by
  pointwise [k1_pay4]

/-- The pooled column of the first document. -/
theorem kern_pay5_0 (a : FVec Ideal S1x1024 .f32) (b : FVec Ideal S512x1024 .f32) (len1 len2 : Elt Ideal .i32) (v : Fin 1024) :
    k1_pay5 (F := Ideal) a b bv len1 z e s es bv len2 (ix2 0 v) = Ideal.log1p (max (a (ix2 0 v)) 0) := by
  pointwise [k1_pay5]

/-- The pooled column of the second document. -/
theorem kern_pay5_1 (a : FVec Ideal S1x1024 .f32) (b : FVec Ideal S512x1024 .f32) (len1 len2 : Elt Ideal .i32) (v : Fin 1024) :
    k1_pay5 (F := Ideal) a b bv len1 z e s es bv len2 (ix2 1 v) =
      Ideal.log1p (max (Finset.fold max (lit 4286578688#32) (fun r : Fin 512 =>
        Scalar.select (IntOp.cmpi .slt (BitVec.ofNat 32 r.val) len1) (b (ix2 r v) + bv (ix2 0 v)) (lit 4286578688#32))
        Finset.univ) 0) := by
  pointwise [k1_pay5]

/-- The pooled column of the third document. -/
theorem kern_pay5_2 (a : FVec Ideal S1x1024 .f32) (b : FVec Ideal S512x1024 .f32) (len1 len2 : Elt Ideal .i32) (v : Fin 1024) :
    k1_pay5 (F := Ideal) a b bv len1 z e s es bv len2 (ix2 2 v) =
      pooled (fun r j => z (ix2 r j)) (fun r => s (ix2 r 0)) (fun j => e (ix2 v j)) (es (ix2 0 v)) (bv (ix2 0 v)) len2 := by
  pointwise [k1_pay5]
  rfl

end Cert.Spec
-- ==== Proof.Value.KOut.lean ====
module

public import proofs.«01_k».proof.Proof.KernelIdeal.Body1
public import proofs.«01_k».proof.Proof.Value.Spec

/-! What the kernel's pooling body stores, entry by entry, of a pooled block. -/

@[expose] public section

set_option maxRecDepth 16384

noncomputable section

namespace Cert.Spec

open Idealize.ShloMosaic Cert.KernelIdeal Cert.KernelIdeal.Gen Cert.KernelIdeal.Hand

/-- The word test by which the kernel masks the columns past the vocabulary. -/
theorem mask_iff (i : grid1.Coords) (v : Fin 1024) :
    IntOp.cmpi .slt (BitVec.ofNat 32 v.val + BitVec.ofNat 32 (i 0).val * 1024#32) 50368#32 =
      if (i 0).val * 1024 + v.val < 50368 then 1#1 else 0#1 := by
  have h0 : (i 0).val < 50 := (i 0).isLt
  have hv := v.isLt
  have e : BitVec.ofNat 32 v.val + BitVec.ofNat 32 (i 0).val * 1024#32 = BitVec.ofNat 32 ((i 0).val * 1024 + v.val) := by
    apply BitVec.eq_of_toNat_eq
    simp
    omega
  rw [e]
  have ht : (BitVec.ofNat 32 ((i 0).val * 1024 + v.val)).toInt = (((i 0).val * 1024 + v.val : ℕ) : ℤ) := by
    rw [BitVec.toInt_eq_toNat_of_lt] <;> simp <;> omega
  have hc : (50368#32 : BitVec 32).toInt = 50368 := by decide
  unfold IntOp.cmpi
  simp only [BitVec.slt, ht, hc]
  by_cases h : (i 0).val * 1024 + v.val < 50368
  · rw [if_pos h, decide_eq_true (by omega)]; rfl
  · rw [if_neg h, decide_eq_false (by omega)]; rfl

variable (i : grid1.Coords) (p : FVec Ideal S3x1024 .f32) (q : Elt Ideal .f32)

theorem kern_rep (d : Fin 3) (v : Fin 1024) :
    outRep (F := Ideal) i p (ix2 d v) = if (i 0).val * 1024 + v.val < 50368 then p (ix2 d v) else 0 := by
  unfold outRep
  pointwise [k1_pay7, k1_pay6, gw]
  erw [mask_iff i v]
  split <;> rfl

theorem kern_codes (d : Fin 3) (v : Fin 1024) :
    outCodes (F := Ideal) i p q (ix2 d v) = (Ideal.fptosi 32 (impact (outRep (F := Ideal) i p (ix2 d v)) q)).setWidth 8 := by
  unfold outCodes outRep
  pointwise [k1_pay8]
  rfl

theorem kern_mean (v : Fin 1024) :
    outMean (F := Ideal) i p (ix2 0 v) = docMean fun d => outRep (F := Ideal) i p (ix2 d v) := by
  unfold outMean outRep
  pointwise [k1_pay9]
  rfl

theorem kern_l1 (a : FVec Ideal S3x1 .f32) (d : Fin 3) :
    outL1 (F := Ideal) i p a (ix2 d 0) = a (ix2 d 0) + ∑ v : Fin 1024, outRep (F := Ideal) i p (ix2 d v) := by
  unfold outL1 outRep
  pointwise [k1_pay13]

theorem kern_flops (a : FVec Ideal S1x1 .f32) :
    outFlops (F := Ideal) i p a (ix2 0 0) =
      a (ix2 0 0) + ∑ v : Fin 1024, outMean (F := Ideal) i p (ix2 0 v) * outMean (F := Ideal) i p (ix2 0 v) := by
  unfold outFlops outMean
  pointwise [k1_pay2]

theorem kern_sat (a : FVec Ideal S3x1 .f32) (d : Fin 3) :
    outSat (F := Ideal) i p q a (ix2 d 0) = a (ix2 d 0) + ∑ v : Fin 1024,
      if (i 0).val * 1024 + v.val < 50368 then excess (outRep (F := Ideal) i p (ix2 d v)) q else 0 := by
  unfold outSat outRep
  pointwise [k1_pay1, k1_pay6, gw]
  congr 1
  refine Finset.sum_congr rfl fun v _ => ?_
  erw [mask_iff i v]
  split <;> rfl

end Cert.Spec
-- ==== Proof.Value.KIn1.lean ====
module

public import proofs.«01_k».proof.Proof.Value.KIn0
public import proofs.«01_k».proof.Proof.Value.KPool
public import proofs.«01_k».proof.Proof.Value.KOut

/-! The kernel's second region: what its blocks hold at an index, and the pooled block of one grid step. -/

@[expose] public section

set_option maxRecDepth 16384

noncomputable section

namespace Cert.KernelIdeal.Hand

open Cert.KernelIdeal Cert.KernelIdeal.Gen Cert.Spec Idealize.ShloMosaic Idealize.ShloMosaic.TcCoe
open Idealize.ShloMosaic.Pipeline (Dat Window)

variable (m : (ℓ : Loc nD τ sig) → Buf (Elt Ideal) ℓ) (c : Dev nD) (t : Fin cfg1.N)

theorem idx1 : ∀ t : Fin cfg1.N, win1_0.index t = ![0] ∧ win1_1.index t = ![0, 0] ∧
    win1_2.index t = ![0, 0] ∧ win1_3.index t = ![0, 0] ∧ win1_4.index t = ![t.val, 0] ∧ win1_5.index t = ![0, t.val] ∧
    win1_6.index t = ![0, t.val] ∧ win1_7.index t = ![0, t.val] ∧ win1_8.index t = ![0, 0] ∧ win1_9.index t = ![0, t.val] ∧
    win1_10.index t = ![0, 0] ∧ win1_11.index t = ![0, t.val] ∧ win1_12.index t = ![0, 0] := by
  decide +kernel

/-- How much of a block lies inside the vocabulary. -/
theorem xs1 : ∀ t : Fin cfg1.N,
    (min 1024 (50368 - t.val * 1024) ≤ win1_4.xsize (grid1.coords t) 0 ∧ 768 ≤ win1_4.xsize (grid1.coords t) 1) ∧
    (1 ≤ win1_5.xsize (grid1.coords t) 0 ∧ min 1024 (50368 - t.val * 1024) ≤ win1_5.xsize (grid1.coords t) 1) ∧
    (1 ≤ win1_6.xsize (grid1.coords t) 0 ∧ min 1024 (50368 - t.val * 1024) ≤ win1_6.xsize (grid1.coords t) 1) := by
  decide +kernel

theorem lt50 (t : Fin cfg1.N) : t.val < 50 := lt_of_lt_of_eq t.isLt N_1

/-! ## The arrays at the region's entry -/

theorem W3_z : W3 m c main_v6_0 = zArr m c :=
  (V3_of m (outs0 m) c main_v6_0 (by decide)).trans (keep0 m c 7).symm
theorem W3_s : W3 m c main_v6_1 = sArr m c :=
  (V3_of m (outs0 m) c main_v6_1 (by decide)).trans (keep0 m c 8).symm
theorem W3_arg (r : Ref sig .tc) (h : r ∉ hostOps1_W) (h' : r ∉ ([main_v6_0, main_v6_1] : List (Ref sig .tc))) (h'' : r ∉ hostOps0_W) :
    W3 m c r = V0 m c r :=
  (V3_of m (outs0 m) c r h).trans ((V2_of m (outs0 m) c r h').trans (V1_of m c r h''))
theorem W3_len : W3 m c main_arg2 = m ((c.tc : Thread nD τ).loc main_arg2) := W3_arg m c main_arg2 (by decide) (by decide) (by decide)
theorem W3_e : W3 m c main_arg8 = m ((c.tc : Thread nD τ).loc main_arg8) := W3_arg m c main_arg8 (by decide) (by decide) (by decide)

theorem V2_arg (r : Ref sig .tc) (h' : r ∉ ([main_v6_0, main_v6_1] : List (Ref sig .tc))) (h'' : r ∉ hostOps0_W) :
    V2 m (outs0 m) c r = V0 m c r :=
  (V2_of m (outs0 m) c r h').trans (V1_of m c r h'')

theorem W3_imp : W3 m c main_v7 (ix2 0 0) = (args m c).imp := by
  refine Eq.trans ?_ (congrFun (V2_arg m c main_arg11 (by decide) (by decide)) ix0)
  show StableHlo.after hostOps1 (V2 m (outs0 m) c) main_v7 (ix2 0 0) = _
  generalize V2 m (outs0 m) c = V
  entry_read
  pointwise
theorem W3_es (v : Fin 50368) : W3 m c main_v8 (ix2 0 v) = (args m c).es v := by
  refine Eq.trans ?_ (congrFun (V2_arg m c main_arg9 (by decide) (by decide)) (ix1 v))
  show StableHlo.after hostOps1 (V2 m (outs0 m) c) main_v8 (ix2 0 v) = _
  generalize V2 m (outs0 m) c = V
  entry_read
  pointwise
theorem W3_bv (v : Fin 50368) : W3 m c main_v9 (ix2 0 v) = (args m c).bv v := by
  refine Eq.trans ?_ (congrFun (V2_arg m c main_arg10 (by decide) (by decide)) (ix1 v))
  show StableHlo.after hostOps1 (V2 m (outs0 m) c) main_v9 (ix2 0 v) = _
  generalize V2 m (outs0 m) c = V
  entry_read
  pointwise

end Cert.KernelIdeal.Hand
-- ==== Proof.Value.KIn2.lean ====
module

public import proofs.«01_k».proof.Proof.Value.KIn1
public import Idealize.ShloMosaic.Lib.Pipeline.ValueKit.Tiles

/-! The kernel's second region: its blocks at an index, and the pooled block of one grid step. -/

@[expose] public section

set_option maxRecDepth 16384

noncomputable section

namespace Cert.KernelIdeal.Hand

open Cert.KernelIdeal Cert.KernelIdeal.Gen Cert.Spec Idealize.ShloMosaic Idealize.ShloMosaic.TcCoe
open Idealize.ShloMosaic.Pipeline (Dat Window)

variable (m : (ℓ : Loc nD τ sig) → Buf (Elt Ideal) ℓ) (c : Dev nD) (t : Fin cfg1.N)

/-! ## The blocks -/

theorem kout0 (d : Fin 3) : blk1 m c 0 t (ix1 d) = (args m c).len d := by
  refine Eq.trans ?_ (congrFun (W3_len m c) (ix1 d))
  show W3 m c main_arg2 (((cfg1.win 0).blk t).view.emb (ix1 d)) = _
  refine congrArg (W3 m c main_arg2) ?_
  blk_ext [idx1 t]
theorem kout1 : blk1 m c 1 t (ix2 0 0) = (args m c).imp := by
  refine Eq.trans ?_ (W3_imp m c)
  show W3 m c main_v7 (((cfg1.win 1).blk t).view.emb (ix2 0 0)) = _
  refine congrArg (W3 m c main_v7) ?_
  blk_ext [idx1 t]
theorem kout2 (r : Fin 1536) (k : Fin 768) : blk1 m c 2 t (ix2 r k) =
    (args m c).z ⟨r.val / 512, by omega⟩ ⟨r.val % 512, by omega⟩ k := by
  refine Eq.trans ?_ (congrFun ((W3_z m c).trans (zArr_eq m c)) (ix2 r k))
  show W3 m c main_v6_0 (((cfg1.win 2).blk t).view.emb (ix2 r k)) = _
  refine congrArg (W3 m c main_v6_0) ?_
  blk_ext [idx1 t]
theorem kout3 (r : Fin 1536) : blk1 m c 3 t (ix2 r 0) =
    (args m c).zs ⟨r.val / 512, by omega⟩ ⟨r.val % 512, by omega⟩ := by
  refine Eq.trans ?_ (congrFun ((W3_s m c).trans (sArr_eq m c)) (ix2 r 0))
  show W3 m c main_v6_1 (((cfg1.win 3).blk t).view.emb (ix2 r 0)) = _
  refine congrArg (W3 m c main_v6_1) ?_
  blk_ext [idx1 t]

/-- A fetched block of the word table, inside the vocabulary: whatever fills it out. -/
theorem kout4 (d4 : win1_4.block.Idx → Elt Ideal win1_4.elt) (v : Fin 1024) (h : t.val * 1024 + v.val < 50368) (k : Fin 768) :
    win1_4.fill (grid1.coords t) d4 (blk1 m c 4 t) (ix2 v k) = (args m c).e ⟨t.val * 1024 + v.val, h⟩ k := by
  have hx := (xs1 t).1
  unfold Window.fill
  rw [dif_pos ((win1_4.moved_iff (grid1.coords t) (ix2 v k)).mpr fun a => by
    fin_cases a
    · exact lt_of_lt_of_le (show v.val < _ by omega) hx.1
    · exact lt_of_lt_of_le (show k.val < 768 from k.isLt) hx.2)]
  refine Eq.trans ?_ (congrFun (W3_e m c) (ix2 ⟨t.val * 1024 + v.val, h⟩ k))
  refine (show blk1 m c 4 t _ = W3 m c main_arg8 (((cfg1.win 4).blk t).view.emb _) from rfl).trans (congrArg (W3 m c main_arg8) ?_)
  funext a
  apply Fin.ext
  fin_cases a <;> blk_simp [idx1 t] <;> rfl
theorem kout5 (d5 : win1_5.block.Idx → Elt Ideal win1_5.elt) (v : Fin 1024) (h : t.val * 1024 + v.val < 50368) :
    win1_5.fill (grid1.coords t) d5 (blk1 m c 5 t) (ix2 0 v) = (args m c).es ⟨t.val * 1024 + v.val, h⟩ := by
  have hx := (xs1 t).2.1
  unfold Window.fill
  rw [dif_pos ((win1_5.moved_iff (grid1.coords t) (ix2 0 v)).mpr fun a => by
    fin_cases a
    · exact lt_of_lt_of_le (show 0 < 1 by omega) hx.1
    · exact lt_of_lt_of_le (show v.val < _ by omega) hx.2)]
  refine Eq.trans ?_ (W3_es m c ⟨t.val * 1024 + v.val, h⟩)
  refine (show blk1 m c 5 t _ = W3 m c main_v8 (((cfg1.win 5).blk t).view.emb _) from rfl).trans (congrArg (W3 m c main_v8) ?_)
  funext a
  apply Fin.ext
  fin_cases a <;> blk_simp [idx1 t] <;> rfl
theorem kout6 (d6 : win1_6.block.Idx → Elt Ideal win1_6.elt) (v : Fin 1024) (h : t.val * 1024 + v.val < 50368) :
    win1_6.fill (grid1.coords t) d6 (blk1 m c 6 t) (ix2 0 v) = (args m c).bv ⟨t.val * 1024 + v.val, h⟩ := by
  have hx := (xs1 t).2.2
  unfold Window.fill
  rw [dif_pos ((win1_6.moved_iff (grid1.coords t) (ix2 0 v)).mpr fun a => by
    fin_cases a
    · exact lt_of_lt_of_le (show 0 < 1 by omega) hx.1
    · exact lt_of_lt_of_le (show v.val < _ by omega) hx.2)]
  refine Eq.trans ?_ (W3_bv m c ⟨t.val * 1024 + v.val, h⟩)
  refine (show blk1 m c 6 t _ = W3 m c main_v9 (((cfg1.win 6).blk t).view.emb _) from rfl).trans (congrArg (W3 m c main_v9) ?_)
  funext a
  apply Fin.ext
  fin_cases a <;> blk_simp [idx1 t] <;> rfl

/-- The requantising scale. -/
theorem imp1_eq : imp1 m c t = (args m c).imp := by
  refine Eq.trans ?_ (kout1 m c t)
  unfold imp1 impAt
  refine congrArg (blk1 m c 1 t) ?_
  funext a
  fin_cases a <;> rfl
/-- The lengths. -/
theorem len1_0 : lenAt (blk1 m c 0 t) 0 = (args m c).len 0 := by
  refine Eq.trans ?_ (kout0 m c t 0)
  unfold lenAt
  refine congrArg (blk1 m c 0 t) ?_
  funext a
  fin_cases a; rfl
theorem len1_1 : lenAt (blk1 m c 0 t) 1 = (args m c).len 1 := by
  refine Eq.trans ?_ (kout0 m c t 1)
  unfold lenAt
  refine congrArg (blk1 m c 0 t) ?_
  funext a
  fin_cases a; rfl
theorem len1_2 : lenAt (blk1 m c 0 t) 2 = (args m c).len 2 := by
  refine Eq.trans ?_ (kout0 m c t 2)
  unfold lenAt
  refine congrArg (blk1 m c 0 t) ?_
  funext a
  fin_cases a; rfl

/-- One document's rows of the codes, and of the scales, as the body loads them. -/
theorem ldz (d : Fin 3) (o : ℕ) (ho : o = d.val * 512) (inb) (r : Fin 512) (k : Fin 768) :
    View.ld (blk1 m c 2 t : Vec Ideal S1536x768 .fp8e4m3) (Rect.unit (s := S1536x768) ![o, 0] S512x768.size inb) (ix2 r k) =
      (args m c).z d r k := by
  subst ho
  rw [View.ld_unit_apply_of (blk1 m c 2 t : Vec Ideal S1536x768 .fp8e4m3) _ _ _ _ (ix2 ⟨d.val * 512 + r.val, by omega⟩ k)
    (fun a => by fin_cases a <;> simp [ix2])]
  refine (kout2 m c t ⟨d.val * 512 + r.val, by omega⟩ k).trans ?_
  exact congrArg₂ (fun a b => (args m c).z a b k) (Fin.ext (by show (d.val * 512 + r.val) / 512 = d.val; omega))
    (Fin.ext (by show (d.val * 512 + r.val) % 512 = r.val; omega))
theorem lds (d : Fin 3) (o : ℕ) (ho : o = d.val * 512) (inb) (r : Fin 512) :
    View.ld (blk1 m c 3 t : Vec Ideal S1536x1 .f32) (Rect.unit (s := S1536x1) ![o, 0] S512x1.size inb) (ix2 r 0) =
      (args m c).zs d r := by
  subst ho
  rw [View.ld_unit_apply_of (blk1 m c 3 t : Vec Ideal S1536x1 .f32) _ _ _ _ (ix2 ⟨d.val * 512 + r.val, by omega⟩ 0)
    (fun a => by fin_cases a <;> simp [ix2])]
  refine (kout3 m c t ⟨d.val * 512 + r.val, by omega⟩).trans ?_
  exact congrArg₂ (fun a b => (args m c).zs a b) (Fin.ext (by show (d.val * 512 + r.val) / 512 = d.val; omega))
    (Fin.ext (by show (d.val * 512 + r.val) % 512 = r.val; omega))

end Cert.KernelIdeal.Hand
-- ==== Proof.Value.KIn3.lean ====
module

public import proofs.«01_k».proof.Proof.Value.KIn2

/-! The pooled block of one grid step of the kernel's second region. -/

@[expose] public section

set_option maxRecDepth 16384

noncomputable section

namespace Cert.KernelIdeal.Hand

open Cert.KernelIdeal Cert.KernelIdeal.Gen Cert.Spec Idealize.ShloMosaic Idealize.ShloMosaic.TcCoe
open Idealize.ShloMosaic.Pipeline (Dat Window)

variable (m : (ℓ : Loc nD τ sig) → Buf (Elt Ideal) ℓ) (c : Dev nD) (t : Fin cfg1.N)
  (d4 : win1_4.block.Idx → Elt Ideal win1_4.elt) (d5 : win1_5.block.Idx → Elt Ideal win1_5.elt)
  (d6 : win1_6.block.Idx → Elt Ideal win1_6.elt)

/-- The pooled column of the second document, its logits computed ahead. -/
theorem pay5_1_pooled (z z' : Vec Ideal S512x768 .fp8e4m3) (e : Vec Ideal S1024x768 .fp8e4m3) (s s' : Vec Ideal S512x1 .f32)
    (es bv : Vec Ideal S1x1024 .f32) (a : FVec Ideal S1x1024 .f32) (len1 len2 : Elt Ideal .i32) (e' : Vec Ideal S1024x768 .fp8e4m3)
    (v : Fin 1024) :
    k1_pay5 (F := Ideal) a (k1_pay4 (F := Ideal) z e s es) bv len1 z' e' s' es bv len2 (ix2 1 v) =
      pooled (fun r j => z (ix2 r j)) (fun r => s (ix2 r 0)) (fun j => e (ix2 v j)) (es (ix2 0 v)) (bv (ix2 0 v)) len1 := by
  rw [kern_pay5_1]
  simp only [kern_pay4_apply]
  rfl

/-- The pooled block over any contents outside the vocabulary. -/
abbrev anyPool : FVec Ideal S3x1024 .f32 :=
  poolOf m c t (win1_4.fill (grid1.coords t) d4 (blk1 m c 4 t)) (win1_5.fill (grid1.coords t) d5 (blk1 m c 5 t))
    (win1_6.fill (grid1.coords t) d6 (blk1 m c 6 t))

theorem pool_0 (v : Fin 1024) (h : t.val * 1024 + v.val < 50368) :
    anyPool m c t d4 d5 d6 (ix2 0 v) = (args m c).rep 0 ⟨t.val * 1024 + v.val, h⟩ := by
  unfold anyPool poolOf poolPre
  refine (kern_pay5_0 _ _ _ _ _ _ _ _ _ v).trans ?_
  refine (congrArg (fun x : EReal => Ideal.log1p (max x 0)) (kern_pay3_top _ _ _ _ _ _ v)).trans ?_
  exact pooled_congr (fun r k => ldz m c t 0 0 rfl _ r k) (fun r => lds m c t 0 0 rfl _ r) (fun k => kout4 m c t d4 v h k)
    (kout5 m c t d5 v h) (kout6 m c t d6 v h) (len1_0 m c t)

theorem pool_1 (v : Fin 1024) (h : t.val * 1024 + v.val < 50368) :
    anyPool m c t d4 d5 d6 (ix2 1 v) = (args m c).rep 1 ⟨t.val * 1024 + v.val, h⟩ := by
  unfold anyPool poolOf poolPre
  refine (pay5_1_pooled _ _ _ _ _ _ _ _ _ _ _ v).trans ?_
  exact pooled_congr (fun r k => ldz m c t 1 512 rfl _ r k) (fun r => lds m c t 1 512 rfl _ r) (fun k => kout4 m c t d4 v h k)
    (kout5 m c t d5 v h) (kout6 m c t d6 v h) (len1_1 m c t)

theorem pool_2 (v : Fin 1024) (h : t.val * 1024 + v.val < 50368) :
    anyPool m c t d4 d5 d6 (ix2 2 v) = (args m c).rep 2 ⟨t.val * 1024 + v.val, h⟩ := by
  unfold anyPool poolOf poolPre
  refine (kern_pay5_2 _ _ _ _ _ _ _ _ _ v).trans ?_
  exact pooled_congr (fun r k => ldz m c t 2 1024 rfl _ r k) (fun r => lds m c t 2 1024 rfl _ r) (fun k => kout4 m c t d4 v h k)
    (kout5 m c t d5 v h) (kout6 m c t d6 v h) (len1_2 m c t)

/-- The pooled entry of a document at a lane of a block, nothing outside the vocabulary. -/
def repAt (A : Cert.Spec.Args) (n : ℕ) (d : Fin 3) (v : ℕ) : EReal :=
  if h : n * 1024 + v < 50368 then A.rep d ⟨n * 1024 + v, h⟩ else 0

theorem rep_any (d : Fin 3) (v : Fin 1024) :
    outRep (grid1.coords t) (anyPool m c t d4 d5 d6) (ix2 d v) = repAt (args m c) t.val d v.val := by
  rw [kern_rep, coord1 t]
  unfold repAt
  by_cases h : t.val * 1024 + v.val < 50368
  · rw [if_pos h, dif_pos h]
    fin_cases d
    · exact pool_0 m c t d4 d5 d6 v h
    · exact pool_1 m c t d4 d5 d6 v h
    · exact pool_2 m c t d4 d5 d6 v h
  · rw [if_neg h, dif_neg h]

/-- The step's block of pooled entries. -/
theorem rep1 (d : Fin 3) (v : Fin 1024) :
    outRep (grid1.coords t) (pool1 m c t) (ix2 d v) = repAt (args m c) t.val d v.val :=
  rep_any m c t _ _ _ d v

/-- Nothing of it depends on what fills the fetched blocks out. -/
theorem rep_indep : outRep (grid1.coords t) (anyPool m c t d4 d5 d6) = outRep (grid1.coords t) (pool1 m c t) := by
  funext j
  rw [ValueIdx.eq_ix2 j]
  exact (rep_any m c t d4 d5 d6 _ _).trans (rep1 m c t _ _).symm

end Cert.KernelIdeal.Hand
-- ==== Proof.Value.KAcc.lean ====
module

public import proofs.«01_k».proof.Proof.Value.KIn3

/-! The three running sums of the kernel's second region, in closed form. -/

@[expose] public section

set_option maxRecDepth 16384

noncomputable section

namespace Cert.KernelIdeal.Hand

open Cert.KernelIdeal Cert.KernelIdeal.Gen Cert.Spec Idealize.ShloMosaic Idealize.ShloMosaic.TcCoe
open Idealize.ShloMosaic.Pipeline (Dat Window)

variable (m : (ℓ : Loc nD τ sig) → Buf (Elt Ideal) ℓ) (c : Dev nD) (t : Fin cfg1.N)

/-- A sum over blocks of 1024 lanes that counts only what lies inside the vocabulary is the sum over the vocabulary. -/
theorem sum_blocks (g : Fin 50368 → EReal) :
    ∑ p ∈ Finset.range 50, ∑ v : Fin 1024, (if h : p * 1024 + v.val < 50368 then g ⟨p * 1024 + v.val, h⟩ else 0) = ∑ v, g v := by
  let f : ℕ → EReal := fun n => if h : n < 50368 then g ⟨n, h⟩ else 0
  have e1 : ∀ p, ∑ v : Fin 1024, (if h : p * 1024 + v.val < 50368 then g ⟨p * 1024 + v.val, h⟩ else 0) =
      ∑ v ∈ Finset.range 1024, f (p * 1024 + v) := fun p => Fin.sum_univ_eq_sum_range (fun v => f (p * 1024 + v)) 1024
  have e2 : ∑ v, g v = ∑ n ∈ Finset.range 50368, f n := by
    rw [← Fin.sum_univ_eq_sum_range f 50368]
    exact Finset.sum_congr rfl fun v _ => (show f v.val = g v from dif_pos v.isLt).symm
  simp only [e1]
  rw [e2, ← Finset.sum_range_mul_split 50 1024 f]
  refine (Finset.sum_subset (Finset.range_mono (by decide)) fun n _ hn => ?_).symm
  exact dif_neg (by simpa using hn)

/-- The first running sum after each point. -/
theorem accL1_eq (d : Fin 3) : ∀ (n : ℕ) (h : n < cfg1.N), accL1 m c n h (ix2 d 0) =
    ∑ p ∈ Finset.range (n + 1), ∑ v : Fin 1024, repAt (args m c) p d v.val
  | 0, h => by
    unfold accL1
    rw [kern_l1, Finset.sum_range_one, show (k1_pay10 (F := Ideal)) (ix2 d 0) = 0 by pointwise [k1_pay10], zero_add]
    exact congrArg (fun f : Fin 1024 → EReal => ∑ v, f v) (funext fun v => rep1 m c ⟨0, h⟩ d v)
  | n + 1, h => by
    unfold accL1
    rw [kern_l1, accL1_eq d n, Finset.sum_range_succ _ (n + 1)]
    exact congrArg (fun f : Fin 1024 → EReal => _ + ∑ v, f v) (funext fun v => rep1 m c ⟨n + 1, h⟩ d v)

theorem lit_three : lit 1077936128#32 ≠ 0 := by
  have e : lit 1077936128#32 = ((3 : ℝ) : EReal) := by
    unfold lit
    simp [Ideal.ofBits, Ideal.ieee, -EReal.coe_mul]
    norm_num
  rw [e]
  exact EReal.coe_ne_zero.mpr (by norm_num)

/-- The mean over the documents at a lane of a block, nothing outside the vocabulary. -/
theorem mean1 (v : Fin 1024) : outMean (grid1.coords t) (pool1 m c t) (ix2 0 v) =
    if h : t.val * 1024 + v.val < 50368 then (args m c).mean ⟨t.val * 1024 + v.val, h⟩ else 0 := by
  rw [kern_mean]
  refine (congrArg docMean (funext fun d => rep1 m c t d v)).trans ?_
  by_cases h : t.val * 1024 + v.val < 50368
  · rw [dif_pos h]
    exact congrArg docMean (funext fun d => dif_pos h)
  · rw [dif_neg h]
    refine (congrArg docMean (funext fun d => dif_neg h)).trans ?_
    unfold docMean
    rw [Finset.sum_const_zero]
    exact Ideal.zero_div lit_three

/-- The second running sum after each point. -/
theorem accFlops_eq : ∀ (n : ℕ) (h : n < cfg1.N), accFlops m c n h (ix2 0 0) =
    ∑ p ∈ Finset.range (n + 1), ∑ v : Fin 1024,
      (if h : p * 1024 + v.val < 50368 then (args m c).mean ⟨p * 1024 + v.val, h⟩ * (args m c).mean ⟨p * 1024 + v.val, h⟩ else 0)
  | 0, h => by
    unfold accFlops
    rw [kern_flops, Finset.sum_range_one, show (k1_pay12 (F := Ideal)) (ix2 0 0) = 0 by pointwise [k1_pay12], zero_add]
    refine congrArg (fun f : Fin 1024 → EReal => ∑ v, f v) (funext fun v => ?_)
    rw [mean1]
    dsimp only
    split
    · rfl
    · exact mul_zero _
  | n + 1, h => by
    unfold accFlops
    rw [kern_flops, accFlops_eq n, Finset.sum_range_succ _ (n + 1)]
    refine congrArg (fun f : Fin 1024 → EReal => _ + ∑ v, f v) (funext fun v => ?_)
    rw [mean1]
    dsimp only
    split
    · rfl
    · exact mul_zero _

/-- The third running sum's summand. -/
theorem sat1 (d : Fin 3) (v : Fin 1024) :
    (if ((grid1.coords t) 0).val * 1024 + v.val < 50368 then excess (outRep (F := Ideal) (grid1.coords t) (pool1 m c t) (ix2 d v)) (imp1 m c t)
      else 0) =
    if h : t.val * 1024 + v.val < 50368 then excess ((args m c).rep d ⟨t.val * 1024 + v.val, h⟩) (args m c).imp else 0 := by
  rw [coord1 t, imp1_eq, rep1]
  unfold repAt
  by_cases h : t.val * 1024 + v.val < 50368
  · rw [if_pos h, dif_pos h, dif_pos h]
  · rw [if_neg h, dif_neg h]

/-- The third running sum after each point. -/
theorem accSat_eq (d : Fin 3) : ∀ (n : ℕ) (h : n < cfg1.N), accSat m c n h (ix2 d 0) =
    ∑ p ∈ Finset.range (n + 1), ∑ v : Fin 1024,
      (if h : p * 1024 + v.val < 50368 then excess ((args m c).rep d ⟨p * 1024 + v.val, h⟩) (args m c).imp else 0)
  | 0, h => by
    unfold accSat
    rw [kern_sat, Finset.sum_range_one, show (k1_pay11 (F := Ideal)) (ix2 d 0) = 0 by pointwise [k1_pay11], zero_add]
    exact congrArg (fun f : Fin 1024 → EReal => ∑ v, f v) (funext fun v => sat1 m c ⟨0, h⟩ d v)
  | n + 1, h => by
    unfold accSat
    rw [kern_sat, accSat_eq d n, Finset.sum_range_succ _ (n + 1)]
    exact congrArg (fun f : Fin 1024 → EReal => _ + ∑ v, f v) (funext fun v => sat1 m c ⟨n + 1, h⟩ d v)

theorem l1_last (d : Fin 3) (h : 49 < cfg1.N) : accL1 m c 49 h (ix2 d 0) = (args m c).l1 d :=
  (accL1_eq m c d 49 h).trans (sum_blocks fun v => (args m c).rep d v)
theorem flops_last (h : 49 < cfg1.N) : accFlops m c 49 h (ix2 0 0) = (args m c).flops :=
  (accFlops_eq m c 49 h).trans (sum_blocks fun v => (args m c).mean v * (args m c).mean v)
theorem sat_last (d : Fin 3) (h : 49 < cfg1.N) : accSat m c 49 h (ix2 d 0) = (args m c).sat d :=
  (accSat_eq m c d 49 h).trans (sum_blocks fun v => excess ((args m c).rep d v) (args m c).imp)

end Cert.KernelIdeal.Hand
-- ==== Proof.Value.Codes.lean ====
module

public import proofs.«01_k».proof.Proof.Value.Spec

/-! The two conversions of an impact to eight bits agree. -/

@[expose] public section

set_option maxRecDepth 16384

noncomputable section

namespace Cert.Spec

open Idealize.ShloMosaic

theorem lit_255 : lit 1132396544#32 = ((255 : ℝ) : EReal) := by
  unfold lit
  simp [Ideal.ofBits, Ideal.ieee, -EReal.coe_mul]; norm_num

/-- An impact lies in 0 … 255, so the signed 32-bit integer cut to eight bits is the unsigned eight-bit integer. -/
theorem codes_eq (v imp : EReal) : (Ideal.fptosi 32 (impact v imp)).setWidth 8 = Ideal.fptoui 8 (impact v imp) := by
  have h0 : (0 : EReal) ≤ impact v imp := by
    unfold impact; rw [lit_255]
    exact le_min (by exact_mod_cast (by norm_num : (0 : ℝ) ≤ 255)) (le_max_left _ _)
  have h1 : impact v imp ≤ ((255 : ℝ) : EReal) := by
    unfold impact; rw [lit_255]; exact min_le_left _ _
  generalize impact v imp = x at h0 h1
  induction x with
  | bot => exact absurd h0 (by simp)
  | top => exact absurd h1 (by simp)
  | coe r =>
    have h0' : (0 : ℝ) ≤ r := by exact_mod_cast h0
    have h1' : r ≤ 255 := by exact_mod_cast h1
    have f0 : 0 ≤ ⌊r⌋ := Int.floor_nonneg.mpr h0'
    have f1 : ⌊r⌋ ≤ 255 := by
      have : (⌊r⌋ : ℝ) ≤ 255 := le_trans (Int.floor_le r) h1'
      exact_mod_cast this
    unfold Ideal.fptosi Ideal.fptoui
    rw [Ideal.toIntClamped_coe, Ideal.toIntClamped_coe, if_pos h0']
    generalize ⌊r⌋ = n at f0 f1
    have a : max (-((2 ^ (32 - 1) : ℕ) : ℤ)) (min (((2 ^ (32 - 1) : ℕ) : ℤ) - 1) n) = n := by norm_num; omega
    have b : max (0 : ℤ) (min (((2 ^ 8 : ℕ) : ℤ) - 1) n) = n := by norm_num; omega
    rw [a, b]
    obtain ⟨k, rfl⟩ := Int.eq_ofNat_of_zero_le f0
    apply BitVec.eq_of_toNat_eq
    simp
    try omega

end Cert.Spec
-- ==== Proof.Value.KVal.lean ====
module

public import proofs.«01_k».proof.Proof.Value.KAcc
public import proofs.«01_k».proof.Proof.Value.Codes

/-! The kernel's result arrays at an index. -/

@[expose] public section

set_option maxRecDepth 16384

noncomputable section

namespace Cert.KernelIdeal.Hand

open Cert.KernelIdeal Cert.KernelIdeal.Gen Cert.Spec Idealize.ShloMosaic Idealize.ShloMosaic.TcCoe
open Idealize.ShloMosaic.Pipeline (Dat Window)

variable (m : (ℓ : Loc nD τ sig) → Buf (Elt Ideal) ℓ) (c : Dev nD) (t : Fin cfg1.N)

theorem after1_7 : (dat1 m c).after 7 t = outRep (grid1.coords t) (pool1 m c t) := by dsimp only [dat1]
theorem after1_8 : (dat1 m c).after 8 t = accL1 m c t.val t.isLt := by dsimp only [dat1]
theorem after1_9 : (dat1 m c).after 9 t = outMean (grid1.coords t) (pool1 m c t) := by dsimp only [dat1]
theorem after1_10 : (dat1 m c).after 10 t = accFlops m c t.val t.isLt := by dsimp only [dat1]
theorem after1_11 : (dat1 m c).after 11 t = outCodes (grid1.coords t) (pool1 m c t) (imp1 m c t) := by dsimp only [dat1]
theorem after1_12 : (dat1 m c).after 12 t = accSat m c t.val t.isLt := by dsimp only [dat1]

/-- The step's pooled entries, at an index of the block and the array's index it goes to. -/
theorem rep_at (x : S3x1024.Idx) (i : S3x50368.Idx) (h0 : (i 0).val = (x 0).val) (h1 : (i 1).val = t.val * 1024 + (x 1).val) :
    outRep (grid1.coords t) (pool1 m c t) x = (args m c).rep (i 0) (i 1) := by
  have hi : (i 1).val < 50368 := (i 1).isLt
  refine (congrArg (outRep (grid1.coords t) (pool1 m c t)) (ValueIdx.eq_ix2 x)).trans ((rep1 m c t _ _).trans ?_)
  unfold repAt
  rw [dif_pos (by rw [← h1]; exact hi)]
  exact congrArg₂ (args m c).rep (Fin.ext h0.symm) (Fin.ext h1.symm)
/-- The step's means. -/
theorem mean_at (x : S1x1024.Idx) (i : S1x50368.Idx) (h1 : (i 1).val = t.val * 1024 + (x 1).val) :
    outMean (grid1.coords t) (pool1 m c t) x = (args m c).mean (i 1) := by
  have hi : (i 1).val < 50368 := (i 1).isLt
  have hx : x = (ix2 0 (x 1) : S1x1024.Idx) := by
    funext a
    fin_cases a
    · exact Fin.ext (by have h : (x 0).val < 1 := (x 0).isLt; show (x 0).val = 0; omega)
    · rfl
  refine (congrArg (outMean (grid1.coords t) (pool1 m c t)) hx).trans ((mean1 m c t _).trans ?_)
  rw [dif_pos (by rw [← h1]; exact hi)]
  exact congrArg (args m c).mean (Fin.ext h1.symm)
/-- The step's impact codes. -/
theorem codes_at (x : S3x1024.Idx) (i : S3x50368.Idx) (h0 : (i 0).val = (x 0).val) (h1 : (i 1).val = t.val * 1024 + (x 1).val) :
    outCodes (grid1.coords t) (pool1 m c t) (imp1 m c t) x = (args m c).impactCode (i 0) (i 1) := by
  refine (congrArg (outCodes (grid1.coords t) (pool1 m c t) (imp1 m c t)) (ValueIdx.eq_ix2 x)).trans
    ((kern_codes _ _ _ _ _).trans ((Cert.Spec.codes_eq _ _).trans ?_))
  refine congrArg₂ (fun a b : EReal => Ideal.fptoui 8 (impact a b)) ?_ (imp1_eq m c t)
  exact (congrArg (outRep (grid1.coords t) (pool1 m c t)) (ValueIdx.eq_ix2 x).symm).trans (rep_at m c t x i h0 h1)

theorem repArr_eq : (dat1 m c).arrAt 7 cfg1.N = fun i : S3x50368.Idx => (args m c).rep (i 0) (i 1) := by
  refine (dat1 m c).arrAt_eq_of_covers 7 _ (by decide +kernel) fun t hf y => ?_
  blk_simp
  rw [after1_7 m c t]
  refine rep_at m c t _ ((win1_7.blk t).view.emb y) ?_ ?_ <;> blk_simp [idx1 t] <;> rfl

theorem meanArr_eq : (dat1 m c).arrAt 9 cfg1.N = fun i : S1x50368.Idx => (args m c).mean (i 1) := by
  refine (dat1 m c).arrAt_eq_of_covers 9 _ (by decide +kernel) fun t hf y => ?_
  blk_simp
  rw [after1_9 m c t]
  refine mean_at m c t _ ((win1_9.blk t).view.emb y) ?_ <;> blk_simp [idx1 t] <;> rfl

theorem codesArr_eq : (dat1 m c).arrAt 11 cfg1.N = fun i : S3x50368.Idx => (args m c).impactCode (i 0) (i 1) := by
  refine (dat1 m c).arrAt_eq_of_covers 11 _ (by decide +kernel) fun t hf y => ?_
  blk_simp
  rw [after1_11 m c t]
  refine codes_at m c t _ ((win1_11.blk t).view.emb y) ?_ ?_ <;> blk_simp [idx1 t] <;> rfl

theorem lt49 : 49 < cfg1.N := by decide +kernel

/-- The two rank-two indices of a one-column array. -/
theorem col3 (x : S3x1.Idx) (i : S3x1.Idx) (h : (i 0).val = (x 0).val) : x = (ix2 (i 0) 0 : S3x1.Idx) := by
  funext a
  fin_cases a
  · exact Fin.ext h.symm
  · exact Fin.ext (by have h : (x 1).val < 1 := (x 1).isLt; show (x 1).val = 0; omega)
theorem col1 (x : S1x1.Idx) : x = (ix2 0 0 : S1x1.Idx) := by
  funext a
  fin_cases a
  · exact Fin.ext (by have h : (x 0).val < 1 := (x 0).isLt; show (x 0).val = 0; omega)
  · exact Fin.ext (by have h : (x 1).val < 1 := (x 1).isLt; show (x 1).val = 0; omega)

theorem l1Arr_eq : (dat1 m c).arrAt 8 cfg1.N = fun i : S3x1.Idx => (args m c).l1 (i 0) := by
  refine (dat1 m c).arrAt_eq_of_after_last 8 ⟨49, lt49⟩ (by decide +kernel) _ fun j => ?_
  refine (cast_eq _ _).trans ?_
  rw [after1_8 m c ⟨49, lt49⟩]
  exact (congrArg (accL1 m c 49 lt49) (col3 _ ((cfg1.win 8).arr.view.emb j) rfl)).trans (l1_last m c _ lt49)

theorem flopsArr_eq : (dat1 m c).arrAt 10 cfg1.N = fun _ : S1x1.Idx => (args m c).flops := by
  refine (dat1 m c).arrAt_eq_of_after_last 10 ⟨49, lt49⟩ (by decide +kernel) _ fun j => ?_
  refine (cast_eq _ _).trans ?_
  rw [after1_10 m c ⟨49, lt49⟩]
  exact (congrArg (accFlops m c 49 lt49) (col1 _)).trans (flops_last m c lt49)

theorem satArr_eq : (dat1 m c).arrAt 12 cfg1.N = fun i : S3x1.Idx => (args m c).sat (i 0) := by
  refine (dat1 m c).arrAt_eq_of_after_last 12 ⟨49, lt49⟩ (by decide +kernel) _ fun j => ?_
  refine (cast_eq _ _).trans ?_
  rw [after1_12 m c ⟨49, lt49⟩]
  exact (congrArg (accSat m c 49 lt49) (col3 _ ((cfg1.win 12).arr.view.emb j) rfl)).trans (sat_last m c _ lt49)

end Cert.KernelIdeal.Hand
-- ==== Proof.Value.RefOut.lean ====
module

public import proofs.«01_k».proof.Proof.Gen.ReferenceIdeal.Value
public import Idealize.ShloMosaic.Lib.Pipeline.ValueKit
public import Idealize.ShloMosaic.Lib.Pipeline.ReadBack
public import Idealize.ShloMosaic.Lib.Pointwise

/-! The reference's result arrays: each is the body's payload over the argument blocks. -/

@[expose] public section

set_option maxRecDepth 16384

noncomputable section

namespace Cert.ReferenceIdeal.Value

open Cert.ReferenceIdeal Cert.ReferenceIdeal.Gen Idealize.ShloMosaic Idealize.ShloMosaic.TcCoe
open Idealize.ShloMosaic.Pipeline (Dat)

variable (m : (ℓ : Loc nD τ sig) → Buf (Elt Ideal) ℓ) (c : Dev nD)

/-- The small constant under the square root. -/
abbrev eps : Ideal .f32 := FloatOps.ofBits .f32 730643660#32

/-- The centred gelu rows, over the argument blocks. -/
def P5 (t : Fin cfg0.N) : FVec Ideal S3x512x768 .f32 := k0_pay5 (F := Ideal) (iblk m c 0 t) (iblk m c 3 t) (iblk m c 1 t) (iblk m c 4 t) (iblk m c 5 t)
/-- Their mean squares. -/
def P6 (t : Fin cfg0.N) : FVec Ideal S3x512x1 .f32 := k0_pay6 (F := Ideal) (iblk m c 0 t) (iblk m c 3 t) (iblk m c 1 t) (iblk m c 4 t) (iblk m c 5 t)
/-- The scales. -/
def P8 (t : Fin cfg0.N) : FVec Ideal S3x512x1 .f32 := k0_pay8 (F := Ideal) (P5 m c t) (P6 m c t) eps (iblk m c 6 t) (iblk m c 7 t)
/-- The codes. -/
def P9 (t : Fin cfg0.N) : FVec Ideal S3x512x768 .fp8e4m3 := k0_pay9 (F := Ideal) (P5 m c t) (P6 m c t) eps (iblk m c 6 t) (iblk m c 7 t)
/-- The three documents' lengths. -/
def len0 (t : Fin cfg0.N) : Elt Ideal .i32 := View.ld (Val := Elt Ideal) (iblk m c 2 t) (Rect.unit (s := S3) ![0] ![1] inb_S3_S1_0) (Shape.Idx.first (numel1_S1.symm ▸ Nat.one_pos))
def len1 (t : Fin cfg0.N) : Elt Ideal .i32 := View.ld (Val := Elt Ideal) (iblk m c 2 t) (Rect.unit (s := S3) ![1] ![1] inb_S3_S1_1) (Shape.Idx.first (numel1_S1.symm ▸ Nat.one_pos))
def len2 (t : Fin cfg0.N) : Elt Ideal .i32 := View.ld (Val := Elt Ideal) (iblk m c 2 t) (Rect.unit (s := S3) ![2] ![1] inb_S3_S1_2) (Shape.Idx.first (numel1_S1.symm ▸ Nat.one_pos))
/-- The requantising scale. -/
def impQ (t : Fin cfg0.N) : Elt Ideal .f32 := View.ld (Val := Elt Ideal) (iblk m c 11 t) (Rect.unit (s := S1x1) ![0, 0] ![1, 1] inb_S1x1_S1x1_0_0) (Shape.Idx.first (numel1_S1x1.symm ▸ Nat.one_pos))
/-- The first document's greatest logits. -/
def P14 (t : Fin cfg0.N) : FVec Ideal S1x50368 .f32 :=
  k0_pay14 (F := Ideal) (k0_pay12 (F := Ideal) (P5 m c t) (P6 m c t) eps (iblk m c 6 t) (iblk m c 7 t) (iblk m c 8 t))
    (k0_pay13 (F := Ideal) (P5 m c t) (P6 m c t) eps (iblk m c 6 t) (iblk m c 7 t)) (iblk m c 9 t) (iblk m c 10 t) (len0 m c t)
/-- The second document's. -/
def P15 (t : Fin cfg0.N) : FVec Ideal S1x50368 .f32 :=
  k0_pay15 (F := Ideal) (P8 m c t) (P9 m c t) (iblk m c 8 t) (iblk m c 9 t) (iblk m c 10 t) (len1 m c t)
/-- The pooled array. -/
def P17 (t : Fin cfg0.N) : FVec Ideal S3x50368 .f32 :=
  k0_pay17 (F := Ideal) (P8 m c t) (P14 m c t) (P15 m c t) (k0_pay16 (F := Ideal) (P9 m c t)) (iblk m c 8 t) (iblk m c 9 t) (iblk m c 10 t) (len2 m c t)

theorem out16 (t : Fin cfg0.N) : (dats m 0 c).after 16 t = k0_pay10 (F := Ideal) (P5 m c t) (P6 m c t) eps (iblk m c 6 t) (iblk m c 7 t) := by
  rw [after0_16]; unfold outsAt0; frame_out
  simp only [read_unread_whole]; rfl
theorem out17 (t : Fin cfg0.N) : (dats m 0 c).after 17 t = k0_pay11 (F := Ideal) (P5 m c t) (P6 m c t) eps (iblk m c 6 t) (iblk m c 7 t) := by
  rw [after0_17]; unfold outsAt0; frame_out
  simp only [read_unread_whole]; rfl
theorem out12 (t : Fin cfg0.N) : (dats m 0 c).after 12 t = P17 m c t := by
  rw [after0_12]; unfold outsAt0; frame_out
  simp only [read_unread_whole]; rfl
theorem out13 (t : Fin cfg0.N) : (dats m 0 c).after 13 t = k0_pay2 (F := Ideal) (P17 m c t) := by
  rw [after0_13]; unfold outsAt0; frame_out
  simp only [read_unread_whole]; rfl
theorem out14 (t : Fin cfg0.N) : (dats m 0 c).after 14 t = k0_pay3 (F := Ideal) (P17 m c t) := by
  rw [after0_14]; unfold outsAt0; frame_out
  simp only [read_unread_whole]; rfl
theorem out15 (t : Fin cfg0.N) : (dats m 0 c).after 15 t = k0_pay4 (F := Ideal) (P17 m c t) := by
  rw [after0_15]; unfold outsAt0; frame_out
  simp only [read_unread_whole]; rfl
theorem out18 (t : Fin cfg0.N) : (dats m 0 c).after 18 t =
    k0_pay18 (F := Ideal) (P8 m c t) (P14 m c t) (P15 m c t) (k0_pay16 (F := Ideal) (P9 m c t)) (iblk m c 8 t) (iblk m c 9 t) (iblk m c 10 t) (len2 m c t) (impQ m c t) := by
  rw [after0_18]; unfold outsAt0; frame_out
  simp only [read_unread_whole]; rfl
theorem out19 (t : Fin cfg0.N) : (dats m 0 c).after 19 t = k0_pay1 (F := Ideal) (P17 m c t) (impQ m c t) (Scalar.ofBits .f32 0x437F0000#32) := by
  rw [after0_19]; unfold outsAt0; frame_out
  simp only [read_unread_whole]; rfl

end Cert.ReferenceIdeal.Value
-- ==== Proof.Value.RefIn.lean ====
module

public import proofs.«01_k».proof.Proof.Gen.ReferenceIdeal.Value
public import Idealize.ShloMosaic.Lib.Pipeline.ValueKit
public import Idealize.ShloMosaic.Lib.Pointwise
public import proofs.«01_k».proof.Proof.Value.Spec

/-! The reference's argument blocks and result arrays, at an index. -/

@[expose] public section

set_option maxRecDepth 16384

noncomputable section

namespace Cert.ReferenceIdeal.Value

open Cert.ReferenceIdeal Cert.ReferenceIdeal.Gen Idealize.ShloMosaic Idealize.ShloMosaic.TcCoe
open Idealize.ShloMosaic.Pipeline (Dat)

variable (m : (ℓ : Loc nD τ sig) → Buf (Elt Ideal) ℓ) (c : Dev nD) (t : Fin cfg0.N)

/-- Every argument's block index is zero. -/
theorem idx_in : ∀ t : Fin cfg0.N, win0_0.index t = ![0, 0, 0] ∧ win0_1.index t = ![0, 0, 0] ∧ win0_2.index t = ![0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] := by
  decide +kernel

/-- The arguments as plain functions. -/
def args : Cert.Spec.Args where
  x d r k := m ((c.tc : Thread nD τ).loc main_arg0) (ix3 d r k)
  xs d r := m ((c.tc : Thread nD τ).loc main_arg1) (ix2 d r)
  len d := m ((c.tc : Thread nD τ).loc main_arg2) (ix1 d)
  w j k := m ((c.tc : Thread nD τ).loc main_arg3) (ix2 j k)
  ws k := m ((c.tc : Thread nD τ).loc main_arg4) (ix1 k)
  bt k := m ((c.tc : Thread nD τ).loc main_arg5) (ix1 k)
  g k := m ((c.tc : Thread nD τ).loc main_arg6) (ix1 k)
  b k := m ((c.tc : Thread nD τ).loc main_arg7) (ix1 k)
  e v k := m ((c.tc : Thread nD τ).loc main_arg8) (ix2 v k)
  es v := m ((c.tc : Thread nD τ).loc main_arg9) (ix1 v)
  bv v := m ((c.tc : Thread nD τ).loc main_arg10) (ix1 v)
  imp := m ((c.tc : Thread nD τ).loc main_arg11) ix0

theorem in0 (d : Fin 3) (r : Fin 512) (k : Fin 768) : iblk m c 0 t (ix3 d r k) = (args m c).x d r k := by
  unfold args
  blk_point [iblk, V, idx_in t]
theorem in1 (d : Fin 3) (r : Fin 512) : iblk m c 1 t (ix3 d r 0) = (args m c).xs d r := by
  unfold args
  blk_point [iblk, V, idx_in t]
theorem in2 (d : Fin 3) : iblk m c 2 t (ix1 d) = (args m c).len d := by
  unfold args
  blk_point [iblk, V, idx_in t]
theorem in3 (j k : Fin 768) : iblk m c 3 t (ix2 j k) = (args m c).w j k := by
  unfold args
  blk_point [iblk, V, idx_in t]
theorem in4 (k : Fin 768) : iblk m c 4 t (ix2 0 k) = (args m c).ws k := by
  unfold args
  blk_point [iblk, V, idx_in t]
theorem in5 (k : Fin 768) : iblk m c 5 t (ix2 0 k) = (args m c).bt k := by
  unfold args
  blk_point [iblk, V, idx_in t]
theorem in6 (k : Fin 768) : iblk m c 6 t (ix2 0 k) = (args m c).g k := by
  unfold args
  blk_point [iblk, V, idx_in t]
theorem in7 (k : Fin 768) : iblk m c 7 t (ix2 0 k) = (args m c).b k := by
  unfold args
  blk_point [iblk, V, idx_in t]
theorem in8 (v : Fin 50368) (k : Fin 768) : iblk m c 8 t (ix2 v k) = (args m c).e v k := by
  unfold args
  blk_point [iblk, V, idx_in t]
theorem in9 (v : Fin 50368) : iblk m c 9 t (ix2 0 v) = (args m c).es v := by
  unfold args
  blk_point [iblk, V, idx_in t]
theorem in10 (v : Fin 50368) : iblk m c 10 t (ix2 0 v) = (args m c).bv v := by
  unfold args
  blk_point [iblk, V, idx_in t]
theorem in11  : iblk m c 11 t (ix2 0 0) = (args m c).imp := by
  unfold args
  blk_point [iblk, V, idx_in t]

theorem arr12 (d : Fin 3) (v : Fin 50368) : (dats m 0 c).arrAt 12 cfg0.N (ix2 d v) = (dats m 0 c).after 12 t0_0 (ix2 d v) := by
  rw [(dats m 0 c).arrAt_eq_of_after_last 12 t0_0 (by decide +kernel) (fun j => (dats m 0 c).after 12 t0_0 j) fun j => ?_]
  blk_simp
theorem arr13 (d : Fin 3) : (dats m 0 c).arrAt 13 cfg0.N (ix2 d 0) = (dats m 0 c).after 13 t0_0 (ix2 d 0) := by
  rw [(dats m 0 c).arrAt_eq_of_after_last 13 t0_0 (by decide +kernel) (fun j => (dats m 0 c).after 13 t0_0 j) fun j => ?_]
  blk_simp
theorem arr14 (v : Fin 50368) : (dats m 0 c).arrAt 14 cfg0.N (ix2 0 v) = (dats m 0 c).after 14 t0_0 (ix2 0 v) := by
  rw [(dats m 0 c).arrAt_eq_of_after_last 14 t0_0 (by decide +kernel) (fun j => (dats m 0 c).after 14 t0_0 j) fun j => ?_]
  blk_simp
theorem arr15  : (dats m 0 c).arrAt 15 cfg0.N (ix2 0 0) = (dats m 0 c).after 15 t0_0 (ix2 0 0) := by
  rw [(dats m 0 c).arrAt_eq_of_after_last 15 t0_0 (by decide +kernel) (fun j => (dats m 0 c).after 15 t0_0 j) fun j => ?_]
  blk_simp
theorem arr16 (r : Fin 1536) (k : Fin 768) : (dats m 0 c).arrAt 16 cfg0.N (ix2 r k) = (dats m 0 c).after 16 t0_0 (ix2 r k) := by
  rw [(dats m 0 c).arrAt_eq_of_after_last 16 t0_0 (by decide +kernel) (fun j => (dats m 0 c).after 16 t0_0 j) fun j => ?_]
  blk_simp
theorem arr17 (r : Fin 1536) : (dats m 0 c).arrAt 17 cfg0.N (ix2 r 0) = (dats m 0 c).after 17 t0_0 (ix2 r 0) := by
  rw [(dats m 0 c).arrAt_eq_of_after_last 17 t0_0 (by decide +kernel) (fun j => (dats m 0 c).after 17 t0_0 j) fun j => ?_]
  blk_simp
theorem arr18 (d : Fin 3) (v : Fin 50368) : (dats m 0 c).arrAt 18 cfg0.N (ix2 d v) = (dats m 0 c).after 18 t0_0 (ix2 d v) := by
  rw [(dats m 0 c).arrAt_eq_of_after_last 18 t0_0 (by decide +kernel) (fun j => (dats m 0 c).after 18 t0_0 j) fun j => ?_]
  blk_simp
theorem arr19 (d : Fin 3) : (dats m 0 c).arrAt 19 cfg0.N (ix2 d 0) = (dats m 0 c).after 19 t0_0 (ix2 d 0) := by
  rw [(dats m 0 c).arrAt_eq_of_after_last 19 t0_0 (by decide +kernel) (fun j => (dats m 0 c).after 19 t0_0 j) fun j => ?_]
  blk_simp

end Cert.ReferenceIdeal.Value
-- ==== Proof.Value.RGelu.lean ====
module

public import proofs.«01_k».proof.Proof.Gen.ReferenceIdeal.Skeleton
public import proofs.«01_k».proof.Proof.Value.Spec

/-! The reference's gelu and linear map, of one row. -/

@[expose] public section

set_option maxRecDepth 16384

noncomputable section

namespace Cert.Spec

open Idealize.ShloMosaic Cert.ReferenceIdeal Cert.ReferenceIdeal.Gen

/-- The gelu as the reference spells it, by the error function of the negated argument. -/
def geluNeg (t : EReal) : EReal :=
  lit 1056964608#32 * t * (1 - FloatOps.erf (F := Ideal) (φ := .f32) ((0 - t) * lit 1060439283#32))

/-- The two spellings agree: the error function is odd on all extended reals. -/
theorem geluNeg_eq (t : EReal) : geluNeg t = gelu t := by
  unfold geluNeg gelu
  rw [zero_sub, EReal.neg_mul]
  change lit 1056964608#32 * t * (1 - Ideal.erf (-(t * lit 1060439283#32))) =
    lit 1056964608#32 * t * (1 + Ideal.erf (t * lit 1060439283#32))
  rw [Ideal.erf_neg, sub_eq_add_neg, neg_neg]

/-- The reference's row of gelu values less its mean. -/
theorem ref_pay5_neg (x : Vec Ideal S3x512x768 .fp8e4m3) (w : Vec Ideal S768x768 .fp8e4m3) (xs : Vec Ideal S3x512x1 .f32)
    (ws bt : Vec Ideal S1x768 .f32) (d : Fin 3) (r : Fin 512) (k : Fin 768) :
    k0_pay5 (F := Ideal) x w xs ws bt (ix3 d r k) =
      (centred fun j => geluNeg (lin (fun j => x (ix3 d r j)) (xs (ix3 d r 0)) (fun j k => w (ix2 j k))
        (fun j => ws (ix2 0 j)) (fun j => bt (ix2 0 j)) j)) k := by
  pointwise [k0_pay5]
  rfl

/-- The reference's row of gelu values less its mean. -/
theorem ref_pay5 (x : Vec Ideal S3x512x768 .fp8e4m3) (w : Vec Ideal S768x768 .fp8e4m3) (xs : Vec Ideal S3x512x1 .f32)
    (ws bt : Vec Ideal S1x768 .f32) (d : Fin 3) (r : Fin 512) (k : Fin 768) :
    k0_pay5 (F := Ideal) x w xs ws bt (ix3 d r k) =
      (centred fun j => gelu (lin (fun j => x (ix3 d r j)) (xs (ix3 d r 0)) (fun j k => w (ix2 j k))
        (fun j => ws (ix2 0 j)) (fun j => bt (ix2 0 j)) j)) k := by
  rw [ref_pay5_neg]
  simp only [geluNeg_eq]

end Cert.Spec
-- ==== Proof.Value.RRow.lean ====
module

public import proofs.«01_k».proof.Proof.Gen.ReferenceIdeal.Skeleton
public import proofs.«01_k».proof.Proof.Value.Spec

/-! What the reference's transform computes of one row. -/

@[expose] public section

set_option maxRecDepth 16384

noncomputable section

namespace Cert.Spec

open Idealize.ShloMosaic Cert.ReferenceIdeal Cert.ReferenceIdeal.Gen

/-- The mean of the row's squares. -/
theorem ref_pay6 (x : Vec Ideal S3x512x768 .fp8e4m3) (w : Vec Ideal S768x768 .fp8e4m3) (xs : Vec Ideal S3x512x1 .f32)
    (ws bt : Vec Ideal S1x768 .f32) (d : Fin 3) (r : Fin 512) :
    k0_pay6 (F := Ideal) x w xs ws bt (ix3 d r 0) = meanSq fun k => k0_pay5 (F := Ideal) x w xs ws bt (ix3 d r k) := by
  pointwise [k0_pay6]
  rfl

/-- The normalised row, scaled and shifted. -/
theorem ref_pay7 (y : FVec Ideal S3x512x768 .f32) (v : FVec Ideal S3x512x1 .f32) (e : Ideal .f32)
    (g b : Vec Ideal S1x768 .f32) (d : Fin 3) (r : Fin 512) (k : Fin 768) :
    k0_pay7 (F := Ideal) y v e g b (ix3 d r k) =
      Ideal.div (y (ix3 d r k)) (Ideal.sqrt (v (ix3 d r 0) + e)) * g (ix2 0 k) + b (ix2 0 k) := by
  pointwise [k0_pay7]

/-- The row's scale. -/
theorem ref_pay8 (y : FVec Ideal S3x512x768 .f32) (v : FVec Ideal S3x512x1 .f32) (e : Ideal .f32)
    (g b : Vec Ideal S1x768 .f32) (d : Fin 3) (r : Fin 512) :
    k0_pay8 (F := Ideal) y v e g b (ix3 d r 0) = scale fun k => k0_pay7 (F := Ideal) y v e g b (ix3 d r k) := by
  pointwise [k0_pay8]
  rfl

/-- The row's codes. -/
theorem ref_pay9 (y : FVec Ideal S3x512x768 .f32) (v : FVec Ideal S3x512x1 .f32) (e : Ideal .f32)
    (g b : Vec Ideal S1x768 .f32) (d : Fin 3) (r : Fin 512) (k : Fin 768) :
    k0_pay9 (F := Ideal) y v e g b (ix3 d r k) = code (fun k => k0_pay7 (F := Ideal) y v e g b (ix3 d r k)) k := by
  pointwise [k0_pay9]
  rw [ref_pay8]
  rfl

/-- The array of codes, its two outer axes merged. -/
theorem ref_pay10 (y : FVec Ideal S3x512x768 .f32) (v : FVec Ideal S3x512x1 .f32) (e : Ideal .f32)
    (g b : Vec Ideal S1x768 .f32) (r : Fin 1536) (k : Fin 768) :
    k0_pay10 (F := Ideal) y v e g b (ix2 r k) =
      k0_pay9 (F := Ideal) y v e g b (ix3 ⟨r.val / 512, by omega⟩ ⟨r.val % 512, by omega⟩ k) := by
  pointwise [k0_pay10]

/-- The array of scales, its two outer axes merged. -/
theorem ref_pay11 (y : FVec Ideal S3x512x768 .f32) (v : FVec Ideal S3x512x1 .f32) (e : Ideal .f32)
    (g b : Vec Ideal S1x768 .f32) (r : Fin 1536) :
    k0_pay11 (F := Ideal) y v e g b (ix2 r 0) =
      k0_pay8 (F := Ideal) y v e g b (ix3 ⟨r.val / 512, by omega⟩ ⟨r.val % 512, by omega⟩ 0) := by
  pointwise [k0_pay11]

end Cert.Spec
-- ==== Proof.Value.RPool12.lean ====
module

public import proofs.«01_k».proof.Proof.Gen.ReferenceIdeal.Skeleton
public import proofs.«01_k».proof.Proof.Value.Spec

/-! What the reference's pooling computes of one column of the vocabulary. -/

@[expose] public section

set_option maxRecDepth 16384

noncomputable section

namespace Cert.Spec

open Idealize.ShloMosaic Cert.ReferenceIdeal Cert.ReferenceIdeal.Gen

/-- The codes of the first document. -/
theorem ref_pay12 (y : FVec Ideal S3x512x768 .f32) (w : FVec Ideal S3x512x1 .f32) (c : Ideal .f32)
    (g b : Vec Ideal S1x768 .f32) (e : Vec Ideal S50368x768 .fp8e4m3) (r : Fin 512) (v : Fin 50368) :
    k0_pay12 (F := Ideal) y w c g b e (ix2 r v) =
      ∑ j, k0_pay9 (F := Ideal) y w c g b (ix3 0 r j) * e (ix2 v j) := by
  pointwise [k0_pay12]

end Cert.Spec
-- ==== Proof.Value.RPool13.lean ====
module

public import proofs.«01_k».proof.Proof.Gen.ReferenceIdeal.Skeleton
public import proofs.«01_k».proof.Proof.Value.Spec

/-! What the reference's pooling computes of one column of the vocabulary. -/

@[expose] public section

set_option maxRecDepth 16384

noncomputable section

namespace Cert.Spec

open Idealize.ShloMosaic Cert.ReferenceIdeal Cert.ReferenceIdeal.Gen

/-- The scales of the first document. -/
theorem ref_pay13 (y : FVec Ideal S3x512x768 .f32) (w : FVec Ideal S3x512x1 .f32) (c : Ideal .f32)
    (g b : Vec Ideal S1x768 .f32) (r : Fin 512) :
    k0_pay13 (F := Ideal) y w c g b (ix2 r 0) = k0_pay8 (F := Ideal) y w c g b (ix3 0 r 0) := by
  pointwise [k0_pay13]

end Cert.Spec
-- ==== Proof.Value.RPool14.lean ====
module

public import proofs.«01_k».proof.Proof.Gen.ReferenceIdeal.Skeleton
public import proofs.«01_k».proof.Proof.Value.Spec

/-! What the reference's pooling computes of one column of the vocabulary. -/

@[expose] public section

set_option maxRecDepth 16384

noncomputable section

namespace Cert.Spec

open Idealize.ShloMosaic Cert.ReferenceIdeal Cert.ReferenceIdeal.Gen

variable (s : FVec Ideal S3x512x1 .f32) (z : FVec Ideal S3x512x768 .fp8e4m3) (e : Vec Ideal S50368x768 .fp8e4m3)
  (es bv : Vec Ideal S1x50368 .f32)

/-- The column's greatest logit over the first document. -/
theorem ref_pay14 (dot : FVec Ideal S512x50368 .f32) (sc : FVec Ideal S512x1 .f32) (len : Elt Ideal .i32) (v : Fin 50368) :
    k0_pay14 (F := Ideal) dot sc es bv len (ix2 0 v) =
      Finset.fold max (lit 4286578688#32) (fun r : Fin 512 =>
        Scalar.select (IntOp.cmpi .slt (BitVec.ofNat 32 r.val) len) (dot (ix2 r v) * sc (ix2 r 0) * es (ix2 0 v) + bv (ix2 0 v))
          (lit 4286578688#32)) Finset.univ := by
  pointwise [k0_pay14]

end Cert.Spec
-- ==== Proof.Value.RPool15.lean ====
module

public import proofs.«01_k».proof.Proof.Gen.ReferenceIdeal.Skeleton
public import proofs.«01_k».proof.Proof.Value.Spec

/-! What the reference's pooling computes of one column of the vocabulary. -/

@[expose] public section

set_option maxRecDepth 16384

noncomputable section

namespace Cert.Spec

open Idealize.ShloMosaic Cert.ReferenceIdeal Cert.ReferenceIdeal.Gen

variable (s : FVec Ideal S3x512x1 .f32) (z : FVec Ideal S3x512x768 .fp8e4m3) (e : Vec Ideal S50368x768 .fp8e4m3)
  (es bv : Vec Ideal S1x50368 .f32)

/-- The column's greatest logit over the second document. -/
theorem ref_pay15 (len : Elt Ideal .i32) (v : Fin 50368) :
    k0_pay15 (F := Ideal) s z e es bv len (ix2 0 v) =
      top (fun r j => z (ix3 1 r j)) (fun r => s (ix3 1 r 0)) (fun j => e (ix2 v j)) (es (ix2 0 v)) (bv (ix2 0 v)) len := by
  pointwise [k0_pay15]
  rfl

end Cert.Spec
-- ==== Proof.Value.RPool16.lean ====
module

public import proofs.«01_k».proof.Proof.Gen.ReferenceIdeal.Skeleton
public import proofs.«01_k».proof.Proof.Value.Spec

/-! What the reference's pooling computes of one column of the vocabulary. -/

@[expose] public section

set_option maxRecDepth 16384

noncomputable section

namespace Cert.Spec

open Idealize.ShloMosaic Cert.ReferenceIdeal Cert.ReferenceIdeal.Gen

variable (s : FVec Ideal S3x512x1 .f32) (z : FVec Ideal S3x512x768 .fp8e4m3) (e : Vec Ideal S50368x768 .fp8e4m3)
  (es bv : Vec Ideal S1x50368 .f32)

/-- The codes of the third document. -/
theorem ref_pay16 (r : Fin 512) (k : Fin 768) : k0_pay16 (F := Ideal) z (ix3 0 r k) = z (ix3 2 r k) := by
  pointwise [k0_pay16]

end Cert.Spec
-- ==== Proof.Value.RPool17a.lean ====
module

public import proofs.«01_k».proof.Proof.Gen.ReferenceIdeal.Skeleton
public import proofs.«01_k».proof.Proof.Value.Spec

/-! What the reference's pooling computes of one column of the vocabulary. -/

@[expose] public section

set_option maxRecDepth 16384

noncomputable section

namespace Cert.Spec

open Idealize.ShloMosaic Cert.ReferenceIdeal Cert.ReferenceIdeal.Gen

variable (s : FVec Ideal S3x512x1 .f32) (z : FVec Ideal S3x512x768 .fp8e4m3) (e : Vec Ideal S50368x768 .fp8e4m3)
  (es bv : Vec Ideal S1x50368 .f32)

variable (a b : FVec Ideal S1x50368 .f32) (z2 : FVec Ideal S1x512x768 .fp8e4m3) (len : Elt Ideal .i32) (v : Fin 50368)

/-- The pooled column of the first document. -/
theorem ref_pay17_0 : k0_pay17 (F := Ideal) s a b z2 e es bv len (ix2 0 v) = Ideal.log1p (max (a (ix2 0 v)) 0) := by
  pointwise [k0_pay17]

end Cert.Spec
-- ==== Proof.Value.RPool17b.lean ====
module

public import proofs.«01_k».proof.Proof.Gen.ReferenceIdeal.Skeleton
public import proofs.«01_k».proof.Proof.Value.Spec

/-! What the reference's pooling computes of one column of the vocabulary. -/

@[expose] public section

set_option maxRecDepth 16384

noncomputable section

namespace Cert.Spec

open Idealize.ShloMosaic Cert.ReferenceIdeal Cert.ReferenceIdeal.Gen

variable (s : FVec Ideal S3x512x1 .f32) (z : FVec Ideal S3x512x768 .fp8e4m3) (e : Vec Ideal S50368x768 .fp8e4m3)
  (es bv : Vec Ideal S1x50368 .f32)

variable (a b : FVec Ideal S1x50368 .f32) (z2 : FVec Ideal S1x512x768 .fp8e4m3) (len : Elt Ideal .i32) (v : Fin 50368)

/-- The pooled column of the second document. -/
theorem ref_pay17_1 : k0_pay17 (F := Ideal) s a b z2 e es bv len (ix2 1 v) = Ideal.log1p (max (b (ix2 0 v)) 0) := by
  pointwise [k0_pay17]

end Cert.Spec
-- ==== Proof.Value.RPool17c.lean ====
module

public import proofs.«01_k».proof.Proof.Gen.ReferenceIdeal.Skeleton
public import proofs.«01_k».proof.Proof.Value.Spec

/-! What the reference's pooling computes of one column of the vocabulary. -/

@[expose] public section

set_option maxRecDepth 16384

noncomputable section

namespace Cert.Spec

open Idealize.ShloMosaic Cert.ReferenceIdeal Cert.ReferenceIdeal.Gen

variable (s : FVec Ideal S3x512x1 .f32) (z : FVec Ideal S3x512x768 .fp8e4m3) (e : Vec Ideal S50368x768 .fp8e4m3)
  (es bv : Vec Ideal S1x50368 .f32)

variable (a b u : FVec Ideal S1x50368 .f32) (z2 : FVec Ideal S1x512x768 .fp8e4m3) (len : Elt Ideal .i32) (v : Fin 50368)

/-- The column's greatest logit over the third document, as the reference computes it. -/
def third : FVec Ideal S1x50368 .f32 :=
  have v122 : FVec Ideal S512x768 .fp8e4m3 := shapeCast S512x768 z2 shapeCasts_S1x512x768_S512x768
  have cst_55 : FVec Ideal S512x50368 .f32 := constant S512x50368 .f32 0x00000000#32
  have v124 : FVec Ideal S512x50368 .f32 := matmul (φ₂ := .fp8e4m3) dot_S512x768_S50368x768_S512x50368_1_1_0_0_n_n none v122 e cst_55
  have v125 : FVec Ideal S1x512x1 .f32 := extractStridedSlice S1x512x1 ![2, 0, 0] s slices_S3x512x1_o2_0_0_S1x512x1
  have v126 : FVec Ideal S512x1 .f32 := shapeCast S512x1 v125 shapeCasts_S1x512x1_S512x1
  have v127 : FVec Ideal S512x50368 .f32 := broadcastTo S512x50368 v126 broadcasts_S512x1_S512x50368
  have v128 : FVec Ideal S512x50368 .f32 := mulf v124 v127
  have v130 : FVec Ideal S1x50368 .f32 := shapeCast S1x50368 es shapeCasts_S1x50368_S1x50368
  have v131 : FVec Ideal S512x50368 .f32 := broadcastTo S512x50368 v130 broadcasts_S1x50368_S512x50368
  have v132 : FVec Ideal S512x50368 .f32 := mulf v128 v131
  have v134 : FVec Ideal S1x50368 .f32 := shapeCast S1x50368 bv shapeCasts_S1x50368_S1x50368
  have v135 : FVec Ideal S512x50368 .f32 := broadcastTo S512x50368 v134 broadcasts_S1x50368_S512x50368
  have v136 : FVec Ideal S512x50368 .f32 := addf v132 v135
  have v137 : IVec S512x50368 32 := iota .tc S512x50368 32 [0] iota_S512x50368_d0_w32
  have v139 : IVec S512x50368 32 := broadcast S512x50368 len
  have v140 : IVec S512x50368 1 := cmpi .slt v137 v139
  have cst_60 : Ideal .f32 := Scalar.ofBits .f32 0xFF800000#32
  have v141 : FVec Ideal S512x50368 .f32 := broadcast S512x50368 cst_60
  have v142 : FVec Ideal S512x50368 .f32 := select v140 v136 v141
  have v143 : FVec Ideal S50368 .f32 := multiReduction .maximumf [0] S50368 v142 0xFF800000#32 reduces_S512x50368_S50368 (.inl rfl) rfl
  have v144 : FVec Ideal S1x50368 .f32 := shapeCast S1x50368 v143 shapeCasts_S50368_S1x50368
  v144

theorem pay17_third : k0_pay17 (F := Ideal) s a b z2 e es bv len =
    log1p (maximumf (concatenate S3x50368 0 [⟨S1x50368, a⟩, ⟨S1x50368, b⟩, ⟨S1x50368, third s e es bv z2 len⟩] concatenates_S1x50368_S1x50368_S1x50368_S3x50368_d0)
      (broadcast S3x50368 (Scalar.ofBits .f32 0x00000000#32))) := rfl

theorem third_apply : third s e es bv z2 len (ix2 0 v) =
    top (fun r j => z2 (ix3 0 r j)) (fun r => s (ix3 2 r 0)) (fun j => e (ix2 v j)) (es (ix2 0 v)) (bv (ix2 0 v)) len := by
  pointwise [third]
  rfl

theorem cat_2 : log1p (maximumf (concatenate S3x50368 0 [⟨S1x50368, a⟩, ⟨S1x50368, b⟩, ⟨S1x50368, u⟩] concatenates_S1x50368_S1x50368_S1x50368_S3x50368_d0) (broadcast S3x50368 (Scalar.ofBits (F := Ideal) .f32 0x00000000#32))) (ix2 2 v) =
    Ideal.log1p (max (u (ix2 0 v)) 0) := by
  pointwise []

/-- The pooled column of the third document. -/
theorem ref_pay17_2 : k0_pay17 (F := Ideal) s a b z2 e es bv len (ix2 2 v) =
    pooled (fun r j => z2 (ix3 0 r j)) (fun r => s (ix3 2 r 0)) (fun j => e (ix2 v j)) (es (ix2 0 v)) (bv (ix2 0 v)) len := by
  rw [pay17_third, cat_2, third_apply]
  rfl

end Cert.Spec
-- ==== Proof.Value.RPool.lean ====
module

public import proofs.«01_k».proof.Proof.Value.RPool12
public import proofs.«01_k».proof.Proof.Value.RPool13
public import proofs.«01_k».proof.Proof.Value.RPool14
public import proofs.«01_k».proof.Proof.Value.RPool15
public import proofs.«01_k».proof.Proof.Value.RPool16
public import proofs.«01_k».proof.Proof.Value.RPool17a
public import proofs.«01_k».proof.Proof.Value.RPool17b
public import proofs.«01_k».proof.Proof.Value.RPool17c

/-! What the reference's pooling computes of one column of the vocabulary, gathered. -/
-- ==== Proof.Value.ROut.lean ====
module

public import proofs.«01_k».proof.Proof.Gen.ReferenceIdeal.Skeleton
public import proofs.«01_k».proof.Proof.Value.Spec

/-! What the reference stores, entry by entry, of the pooled array. -/

@[expose] public section

set_option maxRecDepth 16384

noncomputable section

namespace Cert.Spec

open Idealize.ShloMosaic Cert.ReferenceIdeal Cert.ReferenceIdeal.Gen

variable (p : FVec Ideal S3x50368 .f32) (q : Elt Ideal .f32)

theorem ref_sat (d : Fin 3) :
    k0_pay1 (F := Ideal) p q (Scalar.ofBits .f32 0x437F0000#32) (ix2 d 0) = ∑ v : Fin 50368, excess (p (ix2 d v)) q := by
  pointwise [k0_pay1]
  rfl

theorem ref_l1 (d : Fin 3) : k0_pay2 (F := Ideal) p (ix2 d 0) = ∑ v : Fin 50368, p (ix2 d v) := by
  pointwise [k0_pay2]

theorem ref_mean (v : Fin 50368) : k0_pay3 (F := Ideal) p (ix2 0 v) = docMean fun d => p (ix2 d v) := by
  pointwise [k0_pay3]
  rfl

theorem ref_flops :
    k0_pay4 (F := Ideal) p (ix2 0 0) = ∑ v : Fin 50368, k0_pay3 (F := Ideal) p (ix2 0 v) * k0_pay3 (F := Ideal) p (ix2 0 v) := by
  pointwise [k0_pay4]

theorem ref_codes (s : FVec Ideal S3x512x1 .f32) (a b : FVec Ideal S1x50368 .f32) (z2 : FVec Ideal S1x512x768 .fp8e4m3)
    (e : Vec Ideal S50368x768 .fp8e4m3) (es bv : Vec Ideal S1x50368 .f32) (len : Elt Ideal .i32) (d : Fin 3) (v : Fin 50368) :
    k0_pay18 (F := Ideal) s a b z2 e es bv len q (ix2 d v) =
      Ideal.fptoui 8 (impact (k0_pay17 (F := Ideal) s a b z2 e es bv len (ix2 d v)) q) := by
  pointwise [k0_pay18]
  rfl

end Cert.Spec
-- ==== Proof.Value.RefVal.lean ====
module

public import proofs.«01_k».proof.Proof.Value.RefOut
public import proofs.«01_k».proof.Proof.Value.RefIn
public import proofs.«01_k».proof.Proof.Value.RGelu
public import proofs.«01_k».proof.Proof.Value.RRow
public import proofs.«01_k».proof.Proof.Value.RPool
public import proofs.«01_k».proof.Proof.Value.ROut

/-! The reference's result arrays are the shared function of its arguments. -/

@[expose] public section

set_option maxRecDepth 16384

noncomputable section

namespace Cert.ReferenceIdeal.Value

open Cert.ReferenceIdeal Cert.ReferenceIdeal.Gen Cert.Spec Idealize.ShloMosaic Idealize.ShloMosaic.TcCoe
open Idealize.ShloMosaic.Pipeline (Dat)

variable (m : (ℓ : Loc nD τ sig) → Buf (Elt Ideal) ℓ) (c : Dev nD) (t : Fin cfg0.N)

theorem P5_eq (d : Fin 3) (r : Fin 512) (k : Fin 768) : P5 m c t (ix3 d r k) =
    centred (fun j => gelu (lin ((args m c).x d r) ((args m c).xs d r) (args m c).w (args m c).ws (args m c).bt j)) k := by
  unfold P5
  rw [ref_pay5]
  simp only [in0, in1, in3, in4, in5]

theorem P6_eq (d : Fin 3) (r : Fin 512) : P6 m c t (ix3 d r 0) =
    meanSq (centred (fun j => gelu (lin ((args m c).x d r) ((args m c).xs d r) (args m c).w (args m c).ws (args m c).bt j))) := by
  unfold P6
  rw [ref_pay6]
  exact congrArg meanSq (funext fun k => P5_eq m c t d r k)

theorem P7_eq (d : Fin 3) (r : Fin 512) (k : Fin 768) :
    k0_pay7 (F := Ideal) (P5 m c t) (P6 m c t) eps (iblk m c 6 t) (iblk m c 7 t) (ix3 d r k) = (args m c).row d r k := by
  rw [ref_pay7, P5_eq, P6_eq, in6, in7]
  rfl

theorem P8_eq (d : Fin 3) (r : Fin 512) : P8 m c t (ix3 d r 0) = (args m c).zs d r := by
  unfold P8
  rw [ref_pay8]
  exact congrArg scale (funext fun k => P7_eq m c t d r k)

theorem P9_eq (d : Fin 3) (r : Fin 512) (k : Fin 768) : P9 m c t (ix3 d r k) = (args m c).z d r k := by
  unfold P9
  rw [ref_pay9]
  exact congrArg (fun y => code y k) (funext fun k => P7_eq m c t d r k)

theorem len0_eq : len0 m c t = (args m c).len 0 := by
  rw [← in2 m c t 0]; unfold len0
  exact View.ld_unit_apply_of _ _ _ _ _ _ (fun a => by fin_cases a; rfl)
theorem len1_eq : len1 m c t = (args m c).len 1 := by
  rw [← in2 m c t 1]; unfold len1
  exact View.ld_unit_apply_of _ _ _ _ _ _ (fun a => by fin_cases a; rfl)
theorem len2_eq : len2 m c t = (args m c).len 2 := by
  rw [← in2 m c t 2]; unfold len2
  exact View.ld_unit_apply_of _ _ _ _ _ _ (fun a => by fin_cases a; rfl)
theorem impQ_eq : impQ m c t = (args m c).imp := by
  rw [← in11 m c t]; unfold impQ
  exact View.ld_unit_apply_of _ _ _ _ _ _ (fun a => by fin_cases a <;> rfl)

theorem P14_eq (v : Fin 50368) : P14 m c t (ix2 0 v) =
    top ((args m c).z 0) ((args m c).zs 0) ((args m c).e v) ((args m c).es v) ((args m c).bv v) ((args m c).len 0) := by
  unfold P14
  rw [ref_pay14]
  unfold top
  refine Finset.fold_congr fun r _ => ?_
  rw [ref_pay12, ref_pay13, in9, in10, len0_eq]
  have h8 := P8_eq m c t 0 r
  unfold P8 at h8
  rw [h8]
  have h9 : (∑ j, k0_pay9 (F := Ideal) (P5 m c t) (P6 m c t) eps (iblk m c 6 t) (iblk m c 7 t) (ix3 0 r j) * iblk m c 8 t (ix2 v j)) =
      ∑ j, (args m c).z 0 r j * (args m c).e v j :=
    Finset.sum_congr rfl fun j _ => by
      have h := P9_eq m c t 0 r j
      unfold P9 at h
      rw [h, in8]
  rw [h9]

theorem P15_eq (v : Fin 50368) : P15 m c t (ix2 0 v) =
    top ((args m c).z 1) ((args m c).zs 1) ((args m c).e v) ((args m c).es v) ((args m c).bv v) ((args m c).len 1) := by
  unfold P15
  rw [ref_pay15, len1_eq]
  simp only [P8_eq, P9_eq, in8, in9, in10]

theorem P17_eq (d : Fin 3) (v : Fin 50368) : P17 m c t (ix2 d v) = (args m c).rep d v := by
  unfold P17
  fin_cases d
  · exact (ref_pay17_0 _ _ _ _ _ _ _ _ v).trans (by rw [P14_eq]; rfl)
  · exact (ref_pay17_1 _ _ _ _ _ _ _ _ v).trans (by rw [P15_eq]; rfl)
  · refine (ref_pay17_2 _ _ _ _ _ _ _ _ v).trans ?_
    rw [len2_eq]
    simp only [ref_pay16, P8_eq, P9_eq, in8, in9, in10]
    rfl

theorem rep_eq (d : Fin 3) (v : Fin 50368) : (dats m 0 c).arrAt 12 cfg0.N (ix2 d v) = (args m c).rep d v := by
  rw [arr12, out12, P17_eq]
theorem l1_eq (d : Fin 3) : (dats m 0 c).arrAt 13 cfg0.N (ix2 d 0) = (args m c).l1 d := by
  rw [arr13, out13, ref_l1]
  exact congrArg (fun f : Fin 50368 → EReal => ∑ v, f v) (funext fun v => P17_eq m c t0_0 d v)
theorem mean_row (v : Fin 50368) : k0_pay3 (F := Ideal) (P17 m c t) (ix2 0 v) = (args m c).mean v := by
  rw [ref_mean]
  exact congrArg docMean (funext fun d => P17_eq m c t d v)
theorem mean_eq (v : Fin 50368) : (dats m 0 c).arrAt 14 cfg0.N (ix2 0 v) = (args m c).mean v := by
  rw [arr14, out14, mean_row]
theorem flops_eq : (dats m 0 c).arrAt 15 cfg0.N (ix2 0 0) = (args m c).flops := by
  rw [arr15, out15, ref_flops]
  exact congrArg (fun f : Fin 50368 → EReal => ∑ v, f v) (funext fun v => congrArg (fun x : EReal => x * x) (mean_row m c t0_0 v))
theorem z_eq (r : Fin 1536) (k : Fin 768) : (dats m 0 c).arrAt 16 cfg0.N (ix2 r k) =
    (args m c).z ⟨r.val / 512, by omega⟩ ⟨r.val % 512, by omega⟩ k := by
  rw [arr16, out16, ref_pay10]
  exact P9_eq m c t0_0 _ _ k
theorem zs_eq (r : Fin 1536) : (dats m 0 c).arrAt 17 cfg0.N (ix2 r 0) =
    (args m c).zs ⟨r.val / 512, by omega⟩ ⟨r.val % 512, by omega⟩ := by
  rw [arr17, out17, ref_pay11]
  exact P8_eq m c t0_0 _ _
theorem codes_eq (d : Fin 3) (v : Fin 50368) : (dats m 0 c).arrAt 18 cfg0.N (ix2 d v) = (args m c).impactCode d v := by
  rw [arr18, out18, ref_codes, impQ_eq]
  exact congrArg (fun x => Ideal.fptoui 8 (impact x (args m c).imp)) (P17_eq m c t0_0 d v)
theorem sat_eq (d : Fin 3) : (dats m 0 c).arrAt 19 cfg0.N (ix2 d 0) = (args m c).sat d := by
  rw [arr19, out19, ref_sat, impQ_eq]
  exact congrArg (fun f : Fin 50368 → EReal => ∑ v, f v) (funext fun v => congrArg (fun x : EReal => excess x (args m c).imp) (P17_eq m c t0_0 d v))

end Cert.ReferenceIdeal.Value
-- ==== Proof.Value.Tie.lean ====
module

public import proofs.«01_k».proof.Defs
public import proofs.«01_k».proof.Proof.KernelIdeal.Run
public import proofs.«01_k».proof.Proof.Value.KVal
public import proofs.«01_k».proof.Proof.Value.RefVal
public import Idealize.ShloMosaic.Adequacy
public import Idealize.ShloMosaic.Init

/-! The kernel against the reference: all eight results are one function of the arguments. -/

@[expose] public section

set_option maxRecDepth 16384

noncomputable section

namespace Cert.Tie

open Idealize.ShloMosaic Idealize.ShloMosaic.TcCoe Idealize.SL.Sem Cert.Spec

section Ref

open Cert.ReferenceIdeal Cert.ReferenceIdeal.Gen Cert.ReferenceIdeal.Value

variable (m : (ℓ : Loc nD τ sig) → Buf (Elt Ideal) ℓ) (c : Dev nD)

theorem col3 (x : S3x1.Idx) : x = (ix2 (x 0) 0 : S3x1.Idx) := by
  funext a
  fin_cases a
  · rfl
  · exact Fin.ext (by have h : (x 1).val < 1 := (x 1).isLt; show (x 1).val = 0; omega)
theorem col1536 (x : S1536x1.Idx) : x = (ix2 (x 0) 0 : S1536x1.Idx) := by
  funext a
  fin_cases a
  · rfl
  · exact Fin.ext (by have h : (x 1).val < 1 := (x 1).isLt; show (x 1).val = 0; omega)
theorem row1 (x : S1x50368.Idx) : x = (ix2 0 (x 1) : S1x50368.Idx) := by
  funext a
  fin_cases a
  · exact Fin.ext (by have h : (x 0).val < 1 := (x 0).isLt; show (x 0).val = 0; omega)
  · rfl
theorem one1 (x : S1x1.Idx) : x = (ix2 0 0 : S1x1.Idx) := by
  funext a
  fin_cases a
  · exact Fin.ext (by have h : (x 0).val < 1 := (x 0).isLt; show (x 0).val = 0; omega)
  · exact Fin.ext (by have h : (x 1).val < 1 := (x 1).isLt; show (x 1).val = 0; omega)

theorem ref12 : (dats m 0 c).arrAt 12 cfg0.N = fun i : S3x50368.Idx => (args m c).rep (i 0) (i 1) := by
  funext i
  exact (congrArg ((dats m 0 c).arrAt 12 cfg0.N) (ValueIdx.eq_ix2 i)).trans (rep_eq m c _ _)
theorem ref13 : (dats m 0 c).arrAt 13 cfg0.N = fun i : S3x1.Idx => (args m c).l1 (i 0) := by
  funext i
  exact (congrArg ((dats m 0 c).arrAt 13 cfg0.N) (col3 i)).trans (l1_eq m c _)
theorem ref14 : (dats m 0 c).arrAt 14 cfg0.N = fun i : S1x50368.Idx => (args m c).mean (i 1) := by
  funext i
  exact (congrArg ((dats m 0 c).arrAt 14 cfg0.N) (row1 i)).trans (mean_eq m c _)
theorem ref15 : (dats m 0 c).arrAt 15 cfg0.N = fun _ : S1x1.Idx => (args m c).flops := by
  funext i
  exact (congrArg ((dats m 0 c).arrAt 15 cfg0.N) (one1 i)).trans (flops_eq m c)
theorem ref16 : (dats m 0 c).arrAt 16 cfg0.N = fun i : S1536x768.Idx =>
    (args m c).z ⟨(i 0).val / 512, by have h : (i 0).val < 1536 := (i 0).isLt; omega⟩ ⟨(i 0).val % 512, by omega⟩ (i 1) := by
  funext i
  exact (congrArg ((dats m 0 c).arrAt 16 cfg0.N) (ValueIdx.eq_ix2 i)).trans (z_eq m c _ _)
theorem ref17 : (dats m 0 c).arrAt 17 cfg0.N = fun i : S1536x1.Idx =>
    (args m c).zs ⟨(i 0).val / 512, by have h : (i 0).val < 1536 := (i 0).isLt; omega⟩ ⟨(i 0).val % 512, by omega⟩ := by
  funext i
  exact (congrArg ((dats m 0 c).arrAt 17 cfg0.N) (col1536 i)).trans (zs_eq m c _)
theorem ref18 : (dats m 0 c).arrAt 18 cfg0.N = fun i : S3x50368.Idx => (args m c).impactCode (i 0) (i 1) := by
  funext i
  exact (congrArg ((dats m 0 c).arrAt 18 cfg0.N) (ValueIdx.eq_ix2 i)).trans (codes_eq m c _ _)
theorem ref19 : (dats m 0 c).arrAt 19 cfg0.N = fun i : S3x1.Idx => (args m c).sat (i 0) := by
  funext i
  exact (congrArg ((dats m 0 c).arrAt 19 cfg0.N) (col3 i)).trans (sat_eq m c _)

end Ref

/-- Memories that agree on the twelve arguments give the same arguments. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)) :
    ReferenceIdeal.Value.args m' c = KernelIdeal.Hand.args m c := by
  obtain ⟨h0, h1, h2, h3, h4, h5, h6, h7, h8, h9, h10, h11⟩ := h
  unfold ReferenceIdeal.Value.args KernelIdeal.Hand.args
  rw [Args.mk.injEq]
  exact ⟨funext fun d => funext fun r => funext fun k => congrFun h0 (ix3 d r k), funext fun d => funext fun r => congrFun h1 (ix2 d r),
    funext fun d => congrFun h2 (ix1 d), funext fun j => funext fun k => congrFun h3 (ix2 j k), funext fun k => congrFun h4 (ix1 k),
    funext fun k => congrFun h5 (ix1 k), funext fun k => congrFun h6 (ix1 k), funext fun k => congrFun h7 (ix1 k),
    funext fun v => funext fun k => congrFun h8 (ix2 v k), funext fun v => congrFun h9 (ix1 v), funext fun v => congrFun h10 (ix1 v),
    congrFun h11 ix0⟩

section Same

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-! Each result in the two programs, the arguments being the same. -/

theorem same12 (e : ReferenceIdeal.Value.args m' c = KernelIdeal.Hand.args m c) (X : ReferenceIdeal.S3x50368.Idx → EReal)
    (hX : X = (ReferenceIdeal.Gen.dats m' 0 c).arrAt 12 ReferenceIdeal.cfg0.N) : X = (KernelIdeal.Hand.dat1 m c).arrAt 7 KernelIdeal.cfg1.N :=
  (hX.trans (ref12 m' c)).trans ((congrArg (fun (A : Args) => (fun i => A.rep (i 0) (i 1) : ReferenceIdeal.S3x50368.Idx → EReal)) e).trans
    (KernelIdeal.Hand.repArr_eq m c).symm)

theorem same13 (e : ReferenceIdeal.Value.args m' c = KernelIdeal.Hand.args m c) (X : ReferenceIdeal.S3x1.Idx → EReal)
    (hX : X = (ReferenceIdeal.Gen.dats m' 0 c).arrAt 13 ReferenceIdeal.cfg0.N) : X = (KernelIdeal.Hand.dat1 m c).arrAt 8 KernelIdeal.cfg1.N :=
  (hX.trans (ref13 m' c)).trans ((congrArg (fun (A : Args) => (fun i => A.l1 (i 0) : ReferenceIdeal.S3x1.Idx → EReal)) e).trans
    (KernelIdeal.Hand.l1Arr_eq m c).symm)

theorem same14 (e : ReferenceIdeal.Value.args m' c = KernelIdeal.Hand.args m c) (X : ReferenceIdeal.S1x50368.Idx → EReal)
    (hX : X = (ReferenceIdeal.Gen.dats m' 0 c).arrAt 14 ReferenceIdeal.cfg0.N) : X = (KernelIdeal.Hand.dat1 m c).arrAt 9 KernelIdeal.cfg1.N :=
  (hX.trans (ref14 m' c)).trans ((congrArg (fun (A : Args) => (fun i => A.mean (i 1) : ReferenceIdeal.S1x50368.Idx → EReal)) e).trans
    (KernelIdeal.Hand.meanArr_eq m c).symm)

theorem same15 (e : ReferenceIdeal.Value.args m' c = KernelIdeal.Hand.args m c) (X : ReferenceIdeal.S1x1.Idx → EReal)
    (hX : X = (ReferenceIdeal.Gen.dats m' 0 c).arrAt 15 ReferenceIdeal.cfg0.N) : X = (KernelIdeal.Hand.dat1 m c).arrAt 10 KernelIdeal.cfg1.N :=
  (hX.trans (ref15 m' c)).trans ((congrArg (fun (A : Args) => (fun _ => A.flops : ReferenceIdeal.S1x1.Idx → EReal)) e).trans
    (KernelIdeal.Hand.flopsArr_eq m c).symm)

theorem same16 (e : ReferenceIdeal.Value.args m' c = KernelIdeal.Hand.args m c) (X : ReferenceIdeal.S1536x768.Idx → EReal)
    (hX : X = (ReferenceIdeal.Gen.dats m' 0 c).arrAt 16 ReferenceIdeal.cfg0.N) : X = KernelIdeal.Hand.zArr m c :=
  (hX.trans (ref16 m' c)).trans ((congrArg (fun (A : Args) => (fun i => A.z ⟨(i 0).val / 512, by have h : (i 0).val < 1536 := (i 0).isLt; omega⟩ ⟨(i 0).val % 512, by omega⟩ (i 1) : ReferenceIdeal.S1536x768.Idx → EReal)) e).trans
    (KernelIdeal.Hand.zArr_eq m c).symm)

theorem same17 (e : ReferenceIdeal.Value.args m' c = KernelIdeal.Hand.args m c) (X : ReferenceIdeal.S1536x1.Idx → EReal)
    (hX : X = (ReferenceIdeal.Gen.dats m' 0 c).arrAt 17 ReferenceIdeal.cfg0.N) : X = KernelIdeal.Hand.sArr m c :=
  (hX.trans (ref17 m' c)).trans ((congrArg (fun (A : Args) => (fun i => A.zs ⟨(i 0).val / 512, by have h : (i 0).val < 1536 := (i 0).isLt; omega⟩ ⟨(i 0).val % 512, by omega⟩ : ReferenceIdeal.S1536x1.Idx → EReal)) e).trans
    (KernelIdeal.Hand.sArr_eq m c).symm)

theorem same18 (e : ReferenceIdeal.Value.args m' c = KernelIdeal.Hand.args m c) (X : ReferenceIdeal.S3x50368.Idx → BitVec 8)
    (hX : X = (ReferenceIdeal.Gen.dats m' 0 c).arrAt 18 ReferenceIdeal.cfg0.N) : X = (KernelIdeal.Hand.dat1 m c).arrAt 11 KernelIdeal.cfg1.N :=
  (hX.trans (ref18 m' c)).trans ((congrArg (fun (A : Args) => (fun i => A.impactCode (i 0) (i 1) : ReferenceIdeal.S3x50368.Idx → BitVec 8)) e).trans
    (KernelIdeal.Hand.codesArr_eq m c).symm)

theorem same19 (e : ReferenceIdeal.Value.args m' c = KernelIdeal.Hand.args m c) (X : ReferenceIdeal.S3x1.Idx → EReal)
    (hX : X = (ReferenceIdeal.Gen.dats m' 0 c).arrAt 19 ReferenceIdeal.cfg0.N) : X = (KernelIdeal.Hand.dat1 m c).arrAt 12 KernelIdeal.cfg1.N :=
  (hX.trans (ref19 m' c)).trans ((congrArg (fun (A : Args) => (fun i => A.sat (i 0) : ReferenceIdeal.S3x1.Idx → EReal)) e).trans
    (KernelIdeal.Hand.satArr_eq m c).symm)

end Same

/-- The kernel's second region leaves what its proof data says. -/
theorem obl (m : (ℓ : Loc KernelIdeal.nD KernelIdeal.τ KernelIdeal.sig) → Buf (Elt Ideal) ℓ) (c : Dev KernelIdeal.nD) :
    Pipeline.BodyObligationLoose (KernelIdeal.Hand.dat1 m c) (KernelIdeal.defs₀ (F := Ideal)) Variants.none () Set.univ KernelIdeal.Hand.none1 :=
  KernelIdeal.Hand.body1_exact m (fun c t d4 d5 d6 => KernelIdeal.Hand.rep_indep m c t d4 d5 d6) c

/-- On arguments that agree the kernel and the reference leave the same eight results, and both keep the arguments. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => (KernelIdeal.Hand.dat1 m c).arrAt 7 KernelIdeal.cfg1.N, fun c => (KernelIdeal.Hand.dat1 m c).arrAt 8 KernelIdeal.cfg1.N,
    fun c => (KernelIdeal.Hand.dat1 m c).arrAt 9 KernelIdeal.cfg1.N, fun c => (KernelIdeal.Hand.dat1 m c).arrAt 10 KernelIdeal.cfg1.N,
    fun c => KernelIdeal.Hand.zArr m c, fun c => KernelIdeal.Hand.sArr m c,
    fun c => (KernelIdeal.Hand.dat1 m c).arrAt 11 KernelIdeal.cfg1.N, fun c => (KernelIdeal.Hand.dat1 m c).arrAt 12 KernelIdeal.cfg1.N,
    ?_, ?_⟩
  · refine (KernelIdeal.Hand.run_exact m g (obl m)).mono fun r h c => ?_
    obtain ⟨hz, hs, h0, h1, h2, h3, h4, h5, ha⟩ := h c
    exact ⟨h0, h1, h2, h3, hz, hs, h4, h5, ha⟩
  · refine (ReferenceIdeal.Value.run_blocks m' g').mono fun r h c => ?_
    obtain ⟨h0, h1, h2, h3, h4, h5, h6, h7, ha⟩ := h c
    have e := args_eq m m' c (hm c)
    exact ⟨same12 m m' c e _ h0, same13 m m' c e _ h1, same14 m m' c e _ h2, same15 m m' c e _ h3, same16 m m' c e _ h4, same17 m m' c e _ h5, same18 m m' c e _ h6, same19 m m' c e _ h7, ha⟩

end Cert.Tie
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.Value.Tie
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  trivial, Cert.Tie.algebraic⟩

end Cert.Proof

end
